-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S1x2048x768 : Shape := ⟨3, ![1, 2048, 768]⟩
abbrev S1x2048 : Shape := ⟨2, ![1, 2048]⟩
abbrev S768x768 : Shape := ⟨2, ![768, 768]⟩
abbrev S768 : Shape := ⟨1, ![768]⟩
abbrev S1x768 : Shape := ⟨2, ![1, 768]⟩
abbrev S1 : Shape := ⟨1, ![1]⟩
abbrev S_ : Shape := ⟨0, ![]⟩

class Facts : Prop where
  reducesTo_S1x2048_S_d0_1 : S1x2048.ReducesTo [0, 1] S_
  h_S_ : 0 < S_.numel
  bcast_S_S1x2048x768 : S_.BroadcastsInDim S1x2048x768 (![] : Fin 0 → Fin S1x2048x768.rank)
  reducesTo_S1x2048x768_S_d0_1_2 : S1x2048x768.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_v30 : IVec S_ 1) (main_v33 : IVec S1 1) : IVec S_ 1 :=
  let main_c_12 : IVec S_ 1 := constantI S_ 1 1#1
  let main_v34 : IVec S_ 1 := (fun x v => Host.reduce IntOp.andi x v reducesTo_S1_S_d0 h_S_) main_v33 main_c_12
  let main_v35 : IVec S_ 1 := andi main_v30 main_v34
  main_v35

def fn_part1 {F : FTy → Type} [FloatOps F] (main_arg5 : FVec F S768 .f32) (main_arg10 : FVec F S1x768 .f32) (main_arg11 : FVec F S1 .f32) (main_v15 : IVec S_ 1) (main_v16 : FVec F S768x768 .f32) : IVec S_ 1 :=
  let main_cst_5 : FVec F S_ .f32 := constant S_ .f32 0x7F800000#32
  let main_v17 : FVec F S768x768 .f32 := broadcastInDim S768x768 ![] bcast_S_S768x768 main_cst_5
  let main_v18 : IVec S768x768 1 := cmpf .olt main_v16 main_v17
  let main_c_6 : IVec S_ 1 := constantI S_ 1 1#1
  let main_v19 : IVec S_ 1 := (fun x v => Host.reduce IntOp.andi x v reducesTo_S768x768_S_d0_1 h_S_) main_v18 main_c_6
  let main_v20 : IVec S_ 1 := andi main_v15 main_v19
  let main_v21 : FVec F S768 .f32 := Host.absf main_arg5
  let main_cst_7 : FVec F S_ .f32 := constant S_ .f32 0x7F800000#32
  let main_v22 : FVec F S768 .f32 := broadcastInDim S768 ![] bcast_S_S768 main_cst_7
  let main_v23 : IVec S768 1 := cmpf .olt main_v21 main_v22
  let main_c_8 : IVec S_ 1 := constantI S_ 1 1#1
  let main_v24 : IVec S_ 1 := (fun x v => Host.reduce IntOp.andi x v reducesTo_S768_S_d0 h_S_) main_v23 main_c_8
  let main_v25 : IVec S_ 1 := andi main_v20 main_v24
  let main_v26 : FVec F S1x768 .f32 := Host.absf main_arg10
  let main_cst_9 : FVec F S_ .f32 := constant S_ .f32 0x7F800000#32
  let main_v27 : FVec F S1x768 .f32 := broadcastInDim S1x768 ![] bcast_S_S1x768 main_cst_9
  let main_v28 : IVec S1x768 1 := cmpf .olt main_v26 main_v27
  let main_c_10 : IVec S_ 1 := constantI S_ 1 1#1
  let main_v29 : IVec S_ 1 := (fun x v => Host.reduce IntOp.andi x v reducesTo_S1x768_S_d0_1 h_S_) main_v28 main_c_10
  let main_v30 : IVec S_ 1 := andi main_v25 main_v29
  let main_v31 : FVec F S1 .f32 := Host.absf main_arg11
  let main_cst_11 : FVec F S_ .f32 := constant S_ .f32 0x7F800000#32
  let main_v32 : FVec F S1 .f32 := broadcastInDim S1 ![] bcast_S_S1 main_cst_11
  let main_v33 : IVec S1 1 := cmpf .olt main_v31 main_v32
  fn_part2 (F := F) main_v30 main_v33

def fn {F : FTy → Type} [FloatOps F] (main_arg0 : FVec F S1x2048x768 .f32) (main_arg1 : IVec S1x2048 1) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S768x768 .f32) (main_arg9 : FVec F S768 .f32) (main_arg10 : FVec F S1x768 .f32) (main_arg11 : FVec F S1 .f32) : IVec S_ 1 :=
  let main_c : IVec S_ 1 := constantI S_ 1 1#1
  let main_v0 : IVec S_ 1 := (fun x v => Host.reduce IntOp.andi x v reducesTo_S1x2048_S_d0_1 h_S_) main_arg1 main_c
  let main_v1 : FVec F S1x2048x768 .f32 := Host.absf main_arg0
  let main_cst : FVec F S_ .f32 := constant S_ .f32 0x7F800000#32
  let main_v2 : FVec F S1x2048x768 .f32 := broadcastInDim S1x2048x768 ![] bcast_S_S1x2048x768 main_cst
  let main_v3 : IVec S1x2048x768 1 := cmpf .olt main_v1 main_v2
  let main_c_0 : IVec S_ 1 := constantI S_ 1 1#1
  let main_v4 : IVec S_ 1 := (fun x v => Host.reduce IntOp.andi x v reducesTo_S1x2048x768_S_d0_1_2 h_S_) main_v3 main_c_0
  let main_v5 : IVec S_ 1 := andi main_v0 main_v4
  let main_v6 : FVec F S768x768 .f32 := Host.absf main_arg2
  let main_cst_1 : FVec F S_ .f32 := constant S_ .f32 0x7F800000#32
  let main_v7 : FVec F S768x768 .f32 := broadcastInDim S768x768 ![] bcast_S_S768x768 main_cst_1
  let main_v8 : IVec S768x768 1 := cmpf .olt main_v6 main_v7
  let main_c_2 : IVec S_ 1 := constantI S_ 1 1#1
  let main_v9 : IVec S_ 1 := (fun x v => Host.reduce IntOp.andi x v reducesTo_S768x768_S_d0_1 h_S_) main_v8 main_c_2
  let main_v10 : IVec S_ 1 := andi main_v5 main_v9
  let main_v11 : FVec F S768 .f32 := Host.absf main_arg3
  let main_cst_3 : FVec F S_ .f32 := constant S_ .f32 0x7F800000#32
  let main_v12 : FVec F S768 .f32 := broadcastInDim S768 ![] bcast_S_S768 main_cst_3
  let main_v13 : IVec S768 1 := cmpf .olt main_v11 main_v12
  let main_c_4 : IVec S_ 1 := constantI S_ 1 1#1
  let main_v14 : IVec S_ 1 := (fun x v => Host.reduce IntOp.andi x v reducesTo_S768_S_d0 h_S_) main_v13 main_c_4
  let main_v15 : IVec S_ 1 := andi main_v10 main_v14
  let main_v16 : FVec F S768x768 .f32 := Host.absf main_arg4
  fn_part1 (F := F) main_arg5 main_arg10 main_arg11 main_v15 main_v16
-- ==== Kernel.lean ====
abbrev S1x2048x768 : Shape := ⟨3, ![1, 2048, 768]⟩
abbrev S1x2048 : Shape := ⟨2, ![1, 2048]⟩
abbrev S768x768 : Shape := ⟨2, ![768, 768]⟩
abbrev S768 : Shape := ⟨1, ![768]⟩
abbrev S1x768 : Shape := ⟨2, ![1, 768]⟩
abbrev S1 : Shape := ⟨1, ![1]⟩
abbrev S2048x768 : Shape := ⟨2, ![2048, 768]⟩
abbrev S_ : Shape := ⟨0, ![]⟩
abbrev S768x1 : Shape := ⟨2, ![768, 1]⟩
abbrev S768x128 : Shape := ⟨2, ![768, 128]⟩
abbrev S768x2432 : Shape := ⟨2, ![768, 2432]⟩
abbrev S128 : Shape := ⟨1, ![128]⟩
abbrev S2432 : Shape := ⟨1, ![2432]⟩
abbrev S1x2432 : Shape := ⟨2, ![1, 2432]⟩
abbrev S2048x128 : Shape := ⟨2, ![2048, 128]⟩
abbrev S256x768 : Shape := ⟨2, ![256, 768]⟩
abbrev S256x128 : Shape := ⟨2, ![256, 128]⟩
abbrev S256x2432 : Shape := ⟨2, ![256, 2432]⟩
abbrev S2048x1 : Shape := ⟨2, ![2048, 1]⟩
abbrev S2048 : Shape := ⟨1, ![2048]⟩
abbrev S16x128 : Shape := ⟨2, ![16, 128]⟩
abbrev S8 : Shape := ⟨1, ![8]⟩
abbrev S1x16x128 : Shape := ⟨3, ![1, 16, 128]⟩
abbrev S1x1x1 : Shape := ⟨3, ![1, 1, 1]⟩
abbrev S8x1 : Shape := ⟨2, ![8, 1]⟩
abbrev S1x1 : Shape := ⟨2, ![1, 1]⟩
abbrev S8x768 : Shape := ⟨2, ![8, 768]⟩
abbrev S256x288 : Shape := ⟨2, ![256, 288]⟩
abbrev S256x64 : Shape := ⟨2, ![256, 64]⟩
abbrev S288x64 : Shape := ⟨2, ![288, 64]⟩
abbrev S8x64 : Shape := ⟨2, ![8, 64]⟩
abbrev S256x8 : Shape := ⟨2, ![256, 8]⟩
abbrev S256 : Shape := ⟨1, ![256]⟩
abbrev S256x1 : Shape := ⟨2, ![256, 1]⟩

abbrev nBuf : Space → Nat
  | .hbm => 90
  | .vmem => 24
  | .smem => 1
  | _ => 0

abbrev bufTy : (tb : Table) → Fin (tcTables nBuf tb) → BufTy
  | .hbm, ⟨0, _⟩ => ⟨S1x2048x768, .f32⟩
  | .hbm, ⟨1, _⟩ => ⟨S1x2048, .i1⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S1x768, .f32⟩
  | .hbm, ⟨11, _⟩ => ⟨S1, .f32⟩
  | .hbm, ⟨12, _⟩ => ⟨S2048x768, .f32⟩
  | .hbm, ⟨13, _⟩ => ⟨S768x768, .f32⟩
  | .hbm, ⟨14, _⟩ => ⟨S_, .f32⟩
  | .hbm, ⟨15, _⟩ => ⟨S768x768, .f32⟩
  | .hbm, ⟨16, _⟩ => ⟨S768x768, .f32⟩
  | .hbm, ⟨17, _⟩ => ⟨S768x768, .f32⟩
  | .hbm, ⟨18, _⟩ => ⟨S768x768, .f32⟩
  | .hbm, ⟨19, _⟩ => ⟨S768x1, .f32⟩
  | .hbm, ⟨20, _⟩ => ⟨S_, .i32⟩
  | .hbm, ⟨21, _⟩ => ⟨S_, .f32⟩
  | .hbm, ⟨22, _⟩ => ⟨S768x128, .f32⟩
  | .hbm, ⟨23, _⟩ => ⟨S768x2432, .f32⟩
  | .hbm, ⟨24, _⟩ => ⟨S_, .f32⟩
  | .hbm, ⟨25, _⟩ => ⟨S768, .f32⟩
  | .hbm, ⟨26, _⟩ => ⟨S768, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S2432, .f32⟩
  | .hbm, ⟨31, _⟩ => ⟨S1x2432, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S2048x128, .f32⟩
  | .hbm, ⟨36, _⟩ => ⟨S2048x1, .f32⟩
  | .hbm, ⟨37, _⟩ => ⟨S2048, .f32⟩
  | .hbm, ⟨38, _⟩ => ⟨S16x128, .f32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .i32⟩
  | .hbm, ⟨47, _⟩ => ⟨S8x1, .i32⟩
  | .hbm, ⟨48, _⟩ => ⟨S1, .i32⟩
  | .hbm, ⟨49, _⟩ => ⟨S_, .i32⟩
  | .hbm, ⟨50, _⟩ => ⟨S8x1, .i32⟩
  | .hbm, ⟨51, _⟩ => ⟨S8x1, .i1⟩
  | .hbm, ⟨52, _⟩ => ⟨S1x1, .i32⟩
  | .hbm, ⟨53, _⟩ => ⟨S8x1, .i32⟩
  | .hbm, ⟨54, _⟩ => ⟨S8x1, .i1⟩
  | .hbm, ⟨55, _⟩ => ⟨S8x1, .i1⟩
  | .hbm, ⟨56, _⟩ => ⟨S_, .i1⟩
  | .hbm, ⟨57, _⟩ => ⟨S8, .i1⟩
  | .hbm, ⟨58, _⟩ => ⟨S8x768, .f32⟩
  | .hbm, ⟨59, _⟩ => ⟨S8x768, .i1⟩
  | .hbm, ⟨60, _⟩ => ⟨S_, .f32⟩
  | .hbm, ⟨61, _⟩ => ⟨S8x768, .f32⟩
  | .hbm, ⟨62, _⟩ => ⟨S8x768, .f32⟩
  | .hbm, ⟨63, _⟩ => ⟨S_, .i32⟩
  | .hbm, ⟨64, _⟩ => ⟨S8, .i32⟩
  | .hbm, ⟨65, _⟩ => ⟨S8, .i1⟩
  | .hbm, ⟨66, _⟩ => ⟨S_, .i32⟩
  | .hbm, ⟨67, _⟩ => ⟨S8, .i32⟩
  | .hbm, ⟨68, _⟩ => ⟨S8, .i32⟩
  | .hbm, ⟨69, _⟩ => ⟨S8, .i32⟩
  | .hbm, ⟨70, _⟩ => ⟨S8x1, .i32⟩
  | .hbm, ⟨71, _⟩ => ⟨S1, .i32⟩
  | .hbm, ⟨72, _⟩ => ⟨S_, .i32⟩
  | .hbm, ⟨73, _⟩ => ⟨S8x1, .i32⟩
  | .hbm, ⟨74, _⟩ => ⟨S8x1, .i1⟩
  | .hbm, ⟨75, _⟩ => ⟨S1x1, .i32⟩
  | .hbm, ⟨76, _⟩ => ⟨S8x1, .i32⟩
  | .hbm, ⟨77, _⟩ => ⟨S8x1, .i1⟩
  | .hbm, ⟨78, _⟩ => ⟨S8x1, .i1⟩
  | .hbm, ⟨79, _⟩ => ⟨S_, .i1⟩
  | .hbm, ⟨80, _⟩ => ⟨S8, .i1⟩
  | .hbm, ⟨81, _⟩ => ⟨S8x768, .f32⟩
  | .hbm, ⟨82, _⟩ => ⟨S8x768, .i1⟩
  | .hbm, ⟨83, _⟩ => ⟨S_, .f32⟩
  | .hbm, ⟨84, _⟩ => ⟨S8x768, .f32⟩
  | .hbm, ⟨85, _⟩ => ⟨S8x768, .f32⟩
  | .hbm, ⟨86, _⟩ => ⟨S768x768, .f32⟩
  | .hbm, ⟨87, _⟩ => ⟨S1x768, .f32⟩
  | .hbm, ⟨88, _⟩ => ⟨S2048x768, .f32⟩
  | .hbm, ⟨89, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S768x2432, .f32⟩
  | .local _ .vmem, ⟨3, _⟩ => ⟨S1x2432, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x128, .f32⟩
  | .local _ .vmem, ⟨11, _⟩ => ⟨S256x128, .f32⟩
  | .local _ .vmem, ⟨12, _⟩ => ⟨S16x128, .f32⟩
  | .local _ .vmem, ⟨13, _⟩ => ⟨S256x768, .f32⟩
  | .local _ .vmem, ⟨14, _⟩ => ⟨S256x768, .f32⟩
  | .local _ .vmem, ⟨15, _⟩ => ⟨S2048x768, .f32⟩
  | .local _ .vmem, ⟨16, _⟩ => ⟨S2048x768, .f32⟩
  | .local _ .vmem, ⟨17, _⟩ => ⟨S8x768, .f32⟩
  | .local _ .vmem, ⟨18, _⟩ => ⟨S8x768, .f32⟩
  | .local _ .vmem, ⟨19, _⟩ => ⟨S768x768, .f32⟩
  | .local _ .vmem, ⟨20, _⟩ => ⟨S1x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .smem, ⟨0, _⟩ => ⟨S8, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_call2_cst : Ref sig .tc := ⟨.hbm, 60, rfl⟩
abbrev main_call2_v15 : Ref sig .tc := ⟨.hbm, 61, rfl⟩
abbrev main_v19 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_v14 : Ref sig .tc := ⟨.hbm, 82, rfl⟩
abbrev main_call3_cst : Ref sig .tc := ⟨.hbm, 83, rfl⟩
abbrev main_call3_v15 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc2_scratch0 : Ref sig .tc := ⟨.vmem, 23, rfl⟩
abbrev cc1_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![8], ![false]⟩

def k2_mult1 (i : grid2.Coords) : BitVec 32 :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  v3
def k2_off1 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v26 : Index := Scalar.indexCast v4
  let c0_4 : Index := 0#32
  ![v26.toNat, 0]
def k2_off2 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v65 : Index := Scalar.indexCast v4
  let c64 : Index := 64#32
  ![v65.toNat, 64]
def k2_off3 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v104 : Index := Scalar.indexCast v4
  let c128 : Index := 128#32
  ![v104.toNat, 128]
def k2_off4 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v143 : Index := Scalar.indexCast v4
  let c192 : Index := 192#32
  ![v143.toNat, 192]
def k2_off5 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v182 : Index := Scalar.indexCast v4
  let c256 : Index := 256#32
  ![v182.toNat, 256]
def k2_off6 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v221 : Index := Scalar.indexCast v4
  let c320 : Index := 320#32
  ![v221.toNat, 320]
def k2_off7 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v260 : Index := Scalar.indexCast v4
  let c384 : Index := 384#32
  ![v260.toNat, 384]
def k2_off8 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v299 : Index := Scalar.indexCast v4
  let c448 : Index := 448#32
  ![v299.toNat, 448]
def k2_off9 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v338 : Index := Scalar.indexCast v4
  let c512 : Index := 512#32
  ![v338.toNat, 512]
def k2_off10 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v377 : Index := Scalar.indexCast v4
  let c576 : Index := 576#32
  ![v377.toNat, 576]
def k2_off11 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v416 : Index := Scalar.indexCast v4
  let c640 : Index := 640#32
  ![v416.toNat, 640]
def k2_off12 (i : grid2.Coords) : Fin 2 → Nat :=
  let c1760_i32 : BitVec 32 := 1760#32
  let c0_i32 : BitVec 32 := 0#32
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.subi v0 c16_i32
  let v2 : BitVec 32 := Scalar.maxsi c0_i32 v1
  let v3 : BitVec 32 := Scalar.minsi c1760_i32 v2
  let v4 : BitVec 32 := v3
  let v455 : Index := Scalar.indexCast v4
  let c704 : Index := 704#32
  ![v455.toNat, 704]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S1x2048 : Shape := ⟨2, ![1, 2048]⟩
abbrev S768x768 : Shape := ⟨2, ![768, 768]⟩
abbrev S768 : Shape := ⟨1, ![768]⟩
abbrev S1x768 : Shape := ⟨2, ![1, 768]⟩
abbrev S1 : Shape := ⟨1, ![1]⟩
abbrev S1x1x768 : Shape := ⟨3, ![1, 1, 768]⟩
abbrev S_ : Shape := ⟨0, ![]⟩
abbrev S1x2048x12x64 : Shape := ⟨4, ![1, 2048, 12, 64]⟩
abbrev S1x12x2048x64 : Shape := ⟨4, ![1, 12, 2048, 64]⟩
abbrev S12x2048x64 : Shape := ⟨3, ![12, 2048, 64]⟩
abbrev S768x1 : Shape := ⟨2, ![768, 1]⟩
abbrev S1x2048x1 : Shape := ⟨3, ![1, 2048, 1]⟩
abbrev S1x1x1 : Shape := ⟨3, ![1, 1, 1]⟩
abbrev S1x8 : Shape := ⟨2, ![1, 8]⟩
abbrev S1x1x1x8 : Shape := ⟨4, ![1, 1, 1, 8]⟩
abbrev S1x12x2048x8 : Shape := ⟨4, ![1, 12, 2048, 8]⟩
abbrev S12x2048x8 : Shape := ⟨3, ![12, 2048, 8]⟩
abbrev S2048 : Shape := ⟨1, ![2048]⟩
abbrev S2048x1 : Shape := ⟨2, ![2048, 1]⟩
abbrev S32 : Shape := ⟨1, ![32]⟩
abbrev S1x32 : Shape := ⟨2, ![1, 32]⟩
abbrev S2048x32 : Shape := ⟨2, ![2048, 32]⟩
abbrev S1x2048x32 : Shape := ⟨3, ![1, 2048, 32]⟩
abbrev S12x2048x32 : Shape := ⟨3, ![12, 2048, 32]⟩
abbrev S12x2048x40 : Shape := ⟨3, ![12, 2048, 40]⟩
abbrev S12x2048x40x1 : Shape := ⟨4, ![12, 2048, 40, 1]⟩
abbrev S12x2048x40x64 : Shape := ⟨4, ![12, 2048, 40, 64]⟩
abbrev S1x1x2048 : Shape := ⟨3, ![1, 1, 2048]⟩
abbrev S1x2048x2048 : Shape := ⟨3, ![1, 2048, 2048]⟩
abbrev S12x1x2048x40 : Shape := ⟨4, ![12, 1, 2048, 40]⟩
abbrev S1x1x2048x40 : Shape := ⟨4, ![1, 1, 2048, 40]⟩
abbrev S1x2048x40 : Shape := ⟨3, ![1, 2048, 40]⟩
abbrev S2048x40x1 : Shape := ⟨3, ![2048, 40, 1]⟩
abbrev S2048x40 : Shape := ⟨2, ![2048, 40]⟩
abbrev S12x2048 : Shape := ⟨2, ![12, 2048]⟩
abbrev S12x2048x1 : Shape := ⟨3, ![12, 2048, 1]⟩

abbrev nBuf : Space → Nat
  | .hbm => 425
  | .vmem => 0
  | .smem => 0
  | _ => 0

abbrev hbmTy0_0 (i : Nat) : BufTy := match i % 128 with
  | 0 => ⟨S1x2048x768, .f32⟩
  | 1 => ⟨S1x2048, .i1⟩
  | 2 => ⟨S768x768, .f32⟩
  | 3 => ⟨S768, .f32⟩
  | 4 => ⟨S768x768, .f32⟩
  | 5 => ⟨S768, .f32⟩
  | 6 => ⟨S768x768, .f32⟩
  | 7 => ⟨S768, .f32⟩
  | 8 => ⟨S768x768, .f32⟩
  | 9 => ⟨S768, .f32⟩
  | 10 => ⟨S1x768, .f32⟩
  | 11 => ⟨S1, .f32⟩
  | 12 => ⟨S768x768, .f32⟩
  | 13 => ⟨S1x2048x768, .f32⟩
  | 14 => ⟨S1x1x768, .f32⟩
  | 15 => ⟨S1x2048x768, .f32⟩
  | 16 => ⟨S1x2048x768, .f32⟩
  | 17 => ⟨S_, .f32⟩
  | 18 => ⟨S1x2048x768, .f32⟩
  | 19 => ⟨S1x2048x768, .f32⟩
  | 20 => ⟨S768x768, .f32⟩
  | 21 => ⟨S1x2048x768, .f32⟩
  | 22 => ⟨S1x1x768, .f32⟩
  | 23 => ⟨S1x2048x768, .f32⟩
  | 24 => ⟨S1x2048x768, .f32⟩
  | 25 => ⟨S768x768, .f32⟩
  | 26 => ⟨S1x2048x768, .f32⟩
  | 27 => ⟨S1x1x768, .f32⟩
  | 28 => ⟨S1x2048x768, .f32⟩
  | 29 => ⟨S1x2048x768, .f32⟩
  | 30 => ⟨S1x2048x12x64, .f32⟩
  | 31 => ⟨S1x12x2048x64, .f32⟩
  | 32 => ⟨S12x2048x64, .f32⟩
  | 33 => ⟨S1x2048x12x64, .f32⟩
  | 34 => ⟨S1x12x2048x64, .f32⟩
  | 35 => ⟨S12x2048x64, .f32⟩
  | 36 => ⟨S1x2048x12x64, .f32⟩
  | 37 => ⟨S1x12x2048x64, .f32⟩
  | 38 => ⟨S12x2048x64, .f32⟩
  | 39 => ⟨S768x1, .f32⟩
  | 40 => ⟨S1x2048x1, .f32⟩
  | 41 => ⟨S1x1x1, .f32⟩
  | 42 => ⟨S1x2048x1, .f32⟩
  | 43 => ⟨S1x2048x1, .f32⟩
  | 44 => ⟨S1x2048, .f32⟩
  | 45 => ⟨S_, .f32⟩
  | 46 => ⟨S_, .f32⟩
  | 47 => ⟨S1x2048, .f32⟩
  | 48 => ⟨S1x2048, .f32⟩
  | 49 => ⟨S1x8, .f32⟩
  | 50 => ⟨S1x8, .i32⟩
  | 51 => ⟨S1x1x1x8, .i32⟩
  | 52 => ⟨S1x12x2048x8, .i32⟩
  | 53 => ⟨S12x2048x8, .i32⟩
  | 54 => ⟨S2048, .i32⟩
  | 55 => ⟨S_, .i32⟩
  | 56 => ⟨S2048, .i32⟩
  | 57 => ⟨S2048, .i32⟩
  | 58 => ⟨S_, .i32⟩
  | 59 => ⟨S_, .i32⟩
  | 60 => ⟨S_, .i32⟩
  | 61 => ⟨S2048, .i32⟩
  | 62 => ⟨S2048, .i32⟩
  | 63 => ⟨S_, .i32⟩
  | 64 => ⟨S2048, .i32⟩
  | 65 => ⟨S2048, .i32⟩
  | 66 => ⟨S2048x1, .i32⟩
  | 67 => ⟨S32, .i32⟩
  | 68 => ⟨S1x32, .i32⟩
  | 69 => ⟨S2048x32, .i32⟩
  | 70 => ⟨S2048x32, .i32⟩
  | 71 => ⟨S2048x32, .i32⟩
  | 72 => ⟨S1x2048x32, .i32⟩
  | 73 => ⟨S12x2048x32, .i32⟩
  | 74 => ⟨S12x2048x40, .i32⟩
  | 75 => ⟨S_, .i32⟩
  | 76 => ⟨S12x2048x40, .i32⟩
  | 77 => ⟨S12x2048x40, .i1⟩
  | 78 => ⟨S_, .i32⟩
  | 79 => ⟨S12x2048x40, .i32⟩
  | 80 => ⟨S12x2048x40, .i32⟩
  | 81 => ⟨S12x2048x40, .i32⟩
  | 82 => ⟨S12x2048x40x1, .i32⟩
  | 83 => ⟨S12x2048x40x64, .f32⟩
  | 84 => ⟨S_, .i32⟩
  | 85 => ⟨S12x2048x40, .i32⟩
  | 86 => ⟨S12x2048x40, .i1⟩
  | 87 => ⟨S_, .i32⟩
  | 88 => ⟨S12x2048x40, .i32⟩
  | 89 => ⟨S12x2048x40, .i32⟩
  | 90 => ⟨S12x2048x40, .i32⟩
  | 91 => ⟨S12x2048x40x1, .i32⟩
  | 92 => ⟨S12x2048x40x64, .f32⟩
  | 93 => ⟨S12x2048x40, .f32⟩
  | 94 => ⟨S1x1x2048, .i1⟩
  | 95 => ⟨S1x2048x2048, .i1⟩
  | 96 => ⟨S12x1x2048x40, .i32⟩
  | 97 => ⟨S1x1x2048x40, .i32⟩
  | 98 => ⟨S1x2048x40, .i32⟩
  | 99 => ⟨S_, .i32⟩
  | 100 => ⟨S1x2048x40, .i32⟩
  | 101 => ⟨S1x2048x40, .i1⟩
  | 102 => ⟨S_, .i32⟩
  | 103 => ⟨S1x2048x40, .i32⟩
  | 104 => ⟨S1x2048x40, .i32⟩
  | 105 => ⟨S1x2048x40, .i32⟩
  | 106 => ⟨S2048x40x1, .i32⟩
  | 107 => ⟨S1, .i32⟩
  | 108 => ⟨S_, .i32⟩
  | 109 => ⟨S2048x40x1, .i32⟩
  | 110 => ⟨S2048x40x1, .i1⟩
  | 111 => ⟨S1x1x1, .i32⟩
  | 112 => ⟨S2048x40x1, .i32⟩
  | 113 => ⟨S2048x40x1, .i1⟩
  | 114 => ⟨S2048x40x1, .i1⟩
  | 115 => ⟨S_, .i1⟩
  | 116 => ⟨S2048x40, .i1⟩
  | 117 => ⟨S1x2048x40, .i1⟩
  | 118 => ⟨S1x2048x40, .i1⟩
  | 119 => ⟨S_, .i1⟩
  | 120 => ⟨S1x2048x40, .i1⟩
  | 121 => ⟨S1x2048x40, .i1⟩
  | 122 => ⟨S1x1x2048x40, .i32⟩
  | 123 => ⟨S1x2048x40, .i32⟩
  | 124 => ⟨S_, .i32⟩
  | 125 => ⟨S1x2048x40, .i32⟩
  | 126 => ⟨S1x2048x40, .i1⟩
  | 127 => ⟨S_, .i32⟩
  | _ => ⟨S1x2048x768, .f32⟩

abbrev hbmTy0_1 (i : Nat) : BufTy := match i % 128 with
  | 0 => ⟨S1x2048x40, .i32⟩
  | 1 => ⟨S1x2048x40, .i32⟩
  | 2 => ⟨S1x2048x40, .i32⟩
  | 3 => ⟨S2048x40x1, .i32⟩
  | 4 => ⟨S1, .i32⟩
  | 5 => ⟨S_, .i32⟩
  | 6 => ⟨S2048x40x1, .i32⟩
  | 7 => ⟨S2048x40x1, .i1⟩
  | 8 => ⟨S1x1x1, .i32⟩
  | 9 => ⟨S2048x40x1, .i32⟩
  | 10 => ⟨S2048x40x1, .i1⟩
  | 11 => ⟨S2048x40x1, .i1⟩
  | 12 => ⟨S_, .i1⟩
  | 13 => ⟨S2048x40, .i1⟩
  | 14 => ⟨S1x2048x40, .i1⟩
  | 15 => ⟨S1x2048x40, .i1⟩
  | 16 => ⟨S_, .i1⟩
  | 17 => ⟨S1x2048x40, .i1⟩
  | 18 => ⟨S1x2048x40, .i1⟩
  | 19 => ⟨S1x1x2048x40, .i32⟩
  | 20 => ⟨S1x2048x40, .i32⟩
  | 21 => ⟨S_, .i32⟩
  | 22 => ⟨S1x2048x40, .i32⟩
  | 23 => ⟨S1x2048x40, .i1⟩
  | 24 => ⟨S_, .i32⟩
  | 25 => ⟨S1x2048x40, .i32⟩
  | 26 => ⟨S1x2048x40, .i32⟩
  | 27 => ⟨S1x2048x40, .i32⟩
  | 28 => ⟨S2048x40x1, .i32⟩
  | 29 => ⟨S1, .i32⟩
  | 30 => ⟨S_, .i32⟩
  | 31 => ⟨S2048x40x1, .i32⟩
  | 32 => ⟨S2048x40x1, .i1⟩
  | 33 => ⟨S1x1x1, .i32⟩
  | 34 => ⟨S2048x40x1, .i32⟩
  | 35 => ⟨S2048x40x1, .i1⟩
  | 36 => ⟨S2048x40x1, .i1⟩
  | 37 => ⟨S_, .i1⟩
  | 38 => ⟨S2048x40, .i1⟩
  | 39 => ⟨S1x2048x40, .i1⟩
  | 40 => ⟨S1x2048x40, .i1⟩
  | 41 => ⟨S_, .i1⟩
  | 42 => ⟨S1x2048x40, .i1⟩
  | 43 => ⟨S1x2048x40, .i1⟩
  | 44 => ⟨S1x1x2048x40, .i32⟩
  | 45 => ⟨S1x2048x40, .i32⟩
  | 46 => ⟨S_, .i32⟩
  | 47 => ⟨S1x2048x40, .i32⟩
  | 48 => ⟨S1x2048x40, .i1⟩
  | 49 => ⟨S_, .i32⟩
  | 50 => ⟨S1x2048x40, .i32⟩
  | 51 => ⟨S1x2048x40, .i32⟩
  | 52 => ⟨S1x2048x40, .i32⟩
  | 53 => ⟨S2048x40x1, .i32⟩
  | 54 => ⟨S1, .i32⟩
  | 55 => ⟨S_, .i32⟩
  | 56 => ⟨S2048x40x1, .i32⟩
  | 57 => ⟨S2048x40x1, .i1⟩
  | 58 => ⟨S1x1x1, .i32⟩
  | 59 => ⟨S2048x40x1, .i32⟩
  | 60 => ⟨S2048x40x1, .i1⟩
  | 61 => ⟨S2048x40x1, .i1⟩
  | 62 => ⟨S_, .i1⟩
  | 63 => ⟨S2048x40, .i1⟩
  | 64 => ⟨S1x2048x40, .i1⟩
  | 65 => ⟨S1x2048x40, .i1⟩
  | 66 => ⟨S_, .i1⟩
  | 67 => ⟨S1x2048x40, .i1⟩
  | 68 => ⟨S1x2048x40, .i1⟩
  | 69 => ⟨S1x1x2048x40, .i32⟩
  | 70 => ⟨S1x2048x40, .i32⟩
  | 71 => ⟨S_, .i32⟩
  | 72 => ⟨S1x2048x40, .i32⟩
  | 73 => ⟨S1x2048x40, .i1⟩
  | 74 => ⟨S_, .i32⟩
  | 75 => ⟨S1x2048x40, .i32⟩
  | 76 => ⟨S1x2048x40, .i32⟩
  | 77 => ⟨S1x2048x40, .i32⟩
  | 78 => ⟨S2048x40x1, .i32⟩
  | 79 => ⟨S1, .i32⟩
  | 80 => ⟨S_, .i32⟩
  | 81 => ⟨S2048x40x1, .i32⟩
  | 82 => ⟨S2048x40x1, .i1⟩
  | 83 => ⟨S1x1x1, .i32⟩
  | 84 => ⟨S2048x40x1, .i32⟩
  | 85 => ⟨S2048x40x1, .i1⟩
  | 86 => ⟨S2048x40x1, .i1⟩
  | 87 => ⟨S_, .i1⟩
  | 88 => ⟨S2048x40, .i1⟩
  | 89 => ⟨S1x2048x40, .i1⟩
  | 90 => ⟨S1x2048x40, .i1⟩
  | 91 => ⟨S_, .i1⟩
  | 92 => ⟨S1x2048x40, .i1⟩
  | 93 => ⟨S1x2048x40, .i1⟩
  | 94 => ⟨S1x1x2048x40, .i32⟩
  | 95 => ⟨S1x2048x40, .i32⟩
  | 96 => ⟨S_, .i32⟩
  | 97 => ⟨S1x2048x40, .i32⟩
  | 98 => ⟨S1x2048x40, .i1⟩
  | 99 => ⟨S_, .i32⟩
  | 100 => ⟨S1x2048x40, .i32⟩
  | 101 => ⟨S1x2048x40, .i32⟩
  | 102 => ⟨S1x2048x40, .i32⟩
  | 103 => ⟨S2048x40x1, .i32⟩
  | 104 => ⟨S1, .i32⟩
  | 105 => ⟨S_, .i32⟩
  | 106 => ⟨S2048x40x1, .i32⟩
  | 107 => ⟨S2048x40x1, .i1⟩
  | 108 => ⟨S1x1x1, .i32⟩
  | 109 => ⟨S2048x40x1, .i32⟩
  | 110 => ⟨S2048x40x1, .i1⟩
  | 111 => ⟨S2048x40x1, .i1⟩
  | 112 => ⟨S_, .i1⟩
  | 113 => ⟨S2048x40, .i1⟩
  | 114 => ⟨S1x2048x40, .i1⟩
  | 115 => ⟨S1x2048x40, .i1⟩
  | 116 => ⟨S_, .i1⟩
  | 117 => ⟨S1x2048x40, .i1⟩
  | 118 => ⟨S1x2048x40, .i1⟩
  | 119 => ⟨S1x1x2048x40, .i32⟩
  | 120 => ⟨S1x2048x40, .i32⟩
  | 121 => ⟨S_, .i32⟩
  | 122 => ⟨S1x2048x40, .i32⟩
  | 123 => ⟨S1x2048x40, .i1⟩
  | 124 => ⟨S_, .i32⟩
  | 125 => ⟨S1x2048x40, .i32⟩
  | 126 => ⟨S1x2048x40, .i32⟩
  | 127 => ⟨S1x2048x40, .i32⟩
  | _ => ⟨S1x2048x768, .f32⟩

abbrev hbmTy0_2 (i : Nat) : BufTy := match i % 128 with
  | 0 => ⟨S2048x40x1, .i32⟩
  | 1 => ⟨S1, .i32⟩
  | 2 => ⟨S_, .i32⟩
  | 3 => ⟨S2048x40x1, .i32⟩
  | 4 => ⟨S2048x40x1, .i1⟩
  | 5 => ⟨S1x1x1, .i32⟩
  | 6 => ⟨S2048x40x1, .i32⟩
  | 7 => ⟨S2048x40x1, .i1⟩
  | 8 => ⟨S2048x40x1, .i1⟩
  | 9 => ⟨S_, .i1⟩
  | 10 => ⟨S2048x40, .i1⟩
  | 11 => ⟨S1x2048x40, .i1⟩
  | 12 => ⟨S1x2048x40, .i1⟩
  | 13 => ⟨S_, .i1⟩
  | 14 => ⟨S1x2048x40, .i1⟩
  | 15 => ⟨S1x2048x40, .i1⟩
  | 16 => ⟨S1x1x2048x40, .i32⟩
  | 17 => ⟨S1x2048x40, .i32⟩
  | 18 => ⟨S_, .i32⟩
  | 19 => ⟨S1x2048x40, .i32⟩
  | 20 => ⟨S1x2048x40, .i1⟩
  | 21 => ⟨S_, .i32⟩
  | 22 => ⟨S1x2048x40, .i32⟩
  | 23 => ⟨S1x2048x40, .i32⟩
  | 24 => ⟨S1x2048x40, .i32⟩
  | 25 => ⟨S2048x40x1, .i32⟩
  | 26 => ⟨S1, .i32⟩
  | 27 => ⟨S_, .i32⟩
  | 28 => ⟨S2048x40x1, .i32⟩
  | 29 => ⟨S2048x40x1, .i1⟩
  | 30 => ⟨S1x1x1, .i32⟩
  | 31 => ⟨S2048x40x1, .i32⟩
  | 32 => ⟨S2048x40x1, .i1⟩
  | 33 => ⟨S2048x40x1, .i1⟩
  | 34 => ⟨S_, .i1⟩
  | 35 => ⟨S2048x40, .i1⟩
  | 36 => ⟨S1x2048x40, .i1⟩
  | 37 => ⟨S1x2048x40, .i1⟩
  | 38 => ⟨S_, .i1⟩
  | 39 => ⟨S1x2048x40, .i1⟩
  | 40 => ⟨S1x2048x40, .i1⟩
  | 41 => ⟨S1x1x2048x40, .i32⟩
  | 42 => ⟨S1x2048x40, .i32⟩
  | 43 => ⟨S_, .i32⟩
  | 44 => ⟨S1x2048x40, .i32⟩
  | 45 => ⟨S1x2048x40, .i1⟩
  | 46 => ⟨S_, .i32⟩
  | 47 => ⟨S1x2048x40, .i32⟩
  | 48 => ⟨S1x2048x40, .i32⟩
  | 49 => ⟨S1x2048x40, .i32⟩
  | 50 => ⟨S2048x40x1, .i32⟩
  | 51 => ⟨S1, .i32⟩
  | 52 => ⟨S_, .i32⟩
  | 53 => ⟨S2048x40x1, .i32⟩
  | 54 => ⟨S2048x40x1, .i1⟩
  | 55 => ⟨S1x1x1, .i32⟩
  | 56 => ⟨S2048x40x1, .i32⟩
  | 57 => ⟨S2048x40x1, .i1⟩
  | 58 => ⟨S2048x40x1, .i1⟩
  | 59 => ⟨S_, .i1⟩
  | 60 => ⟨S2048x40, .i1⟩
  | 61 => ⟨S1x2048x40, .i1⟩
  | 62 => ⟨S1x2048x40, .i1⟩
  | 63 => ⟨S_, .i1⟩
  | 64 => ⟨S1x2048x40, .i1⟩
  | 65 => ⟨S1x2048x40, .i1⟩
  | 66 => ⟨S1x1x2048x40, .i32⟩
  | 67 => ⟨S1x2048x40, .i32⟩
  | 68 => ⟨S_, .i32⟩
  | 69 => ⟨S1x2048x40, .i32⟩
  | 70 => ⟨S1x2048x40, .i1⟩
  | 71 => ⟨S_, .i32⟩
  | 72 => ⟨S1x2048x40, .i32⟩
  | 73 => ⟨S1x2048x40, .i32⟩
  | 74 => ⟨S1x2048x40, .i32⟩
  | 75 => ⟨S2048x40x1, .i32⟩
  | 76 => ⟨S1, .i32⟩
  | 77 => ⟨S_, .i32⟩
  | 78 => ⟨S2048x40x1, .i32⟩
  | 79 => ⟨S2048x40x1, .i1⟩
  | 80 => ⟨S1x1x1, .i32⟩
  | 81 => ⟨S2048x40x1, .i32⟩
  | 82 => ⟨S2048x40x1, .i1⟩
  | 83 => ⟨S2048x40x1, .i1⟩
  | 84 => ⟨S_, .i1⟩
  | 85 => ⟨S2048x40, .i1⟩
  | 86 => ⟨S1x2048x40, .i1⟩
  | 87 => ⟨S1x2048x40, .i1⟩
  | 88 => ⟨S_, .i1⟩
  | 89 => ⟨S1x2048x40, .i1⟩
  | 90 => ⟨S1x2048x40, .i1⟩
  | 91 => ⟨S1x1x2048x40, .i32⟩
  | 92 => ⟨S1x2048x40, .i32⟩
  | 93 => ⟨S_, .i32⟩
  | 94 => ⟨S1x2048x40, .i32⟩
  | 95 => ⟨S1x2048x40, .i1⟩
  | 96 => ⟨S_, .i32⟩
  | 97 => ⟨S1x2048x40, .i32⟩
  | 98 => ⟨S1x2048x40, .i32⟩
  | 99 => ⟨S1x2048x40, .i32⟩
  | 100 => ⟨S2048x40x1, .i32⟩
  | 101 => ⟨S1, .i32⟩
  | 102 => ⟨S_, .i32⟩
  | 103 => ⟨S2048x40x1, .i32⟩
  | 104 => ⟨S2048x40x1, .i1⟩
  | 105 => ⟨S1x1x1, .i32⟩
  | 106 => ⟨S2048x40x1, .i32⟩
  | 107 => ⟨S2048x40x1, .i1⟩
  | 108 => ⟨S2048x40x1, .i1⟩
  | 109 => ⟨S_, .i1⟩
  | 110 => ⟨S2048x40, .i1⟩
  | 111 => ⟨S1x2048x40, .i1⟩
  | 112 => ⟨S1x2048x40, .i1⟩
  | 113 => ⟨S_, .i1⟩
  | 114 => ⟨S1x2048x40, .i1⟩
  | 115 => ⟨S1x2048x40, .i1⟩
  | 116 => ⟨S1x1x2048x40, .i32⟩
  | 117 => ⟨S1x2048x40, .i32⟩
  | 118 => ⟨S_, .i32⟩
  | 119 => ⟨S1x2048x40, .i32⟩
  | 120 => ⟨S1x2048x40, .i1⟩
  | 121 => ⟨S_, .i32⟩
  | 122 => ⟨S1x2048x40, .i32⟩
  | 123 => ⟨S1x2048x40, .i32⟩
  | 124 => ⟨S1x2048x40, .i32⟩
  | 125 => ⟨S2048x40x1, .i32⟩
  | 126 => ⟨S1, .i32⟩
  | 127 => ⟨S_, .i32⟩
  | _ => ⟨S1x2048x768, .f32⟩

abbrev hbmTy0_3 (i : Nat) : BufTy := match i % 128 with
  | 0 => ⟨S2048x40x1, .i32⟩
  | 1 => ⟨S2048x40x1, .i1⟩
  | 2 => ⟨S1x1x1, .i32⟩
  | 3 => ⟨S2048x40x1, .i32⟩
  | 4 => ⟨S2048x40x1, .i1⟩
  | 5 => ⟨S2048x40x1, .i1⟩
  | 6 => ⟨S_, .i1⟩
  | 7 => ⟨S2048x40, .i1⟩
  | 8 => ⟨S1x2048x40, .i1⟩
  | 9 => ⟨S1x2048x40, .i1⟩
  | 10 => ⟨S_, .i1⟩
  | 11 => ⟨S1x2048x40, .i1⟩
  | 12 => ⟨S1x2048x40, .i1⟩
  | 13 => ⟨S12x2048x40, .i1⟩
  | 14 => ⟨S_, .f32⟩
  | 15 => ⟨S_, .f32⟩
  | 16 => ⟨S12x2048x40, .f32⟩
  | 17 => ⟨S12x2048x40, .f32⟩
  | 18 => ⟨S_, .f32⟩
  | 19 => ⟨S12x2048, .f32⟩
  | 20 => ⟨S_, .f32⟩
  | 21 => ⟨S12x2048, .f32⟩
  | 22 => ⟨S12x2048, .f32⟩
  | 23 => ⟨S12x2048x1, .f32⟩
  | 24 => ⟨S12x2048x40, .f32⟩
  | 25 => ⟨S12x2048x40, .f32⟩
  | 26 => ⟨S12x2048x40, .f32⟩
  | 27 => ⟨S_, .f32⟩
  | 28 => ⟨S12x2048, .f32⟩
  | 29 => ⟨S12x2048x1, .f32⟩
  | 30 => ⟨S12x2048x40, .f32⟩
  | 31 => ⟨S12x2048x40, .f32⟩
  | 32 => ⟨S12x2048x64, .f32⟩
  | 33 => ⟨S1x12x2048x64, .f32⟩
  | 34 => ⟨S1x2048x12x64, .f32⟩
  | 35 => ⟨S1x2048x768, .f32⟩
  | 36 => ⟨S768x768, .f32⟩
  | 37 => ⟨S1x2048x768, .f32⟩
  | 38 => ⟨S1x1x768, .f32⟩
  | 39 => ⟨S1x2048x768, .f32⟩
  | 40 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | 3 => hbmTy0_3 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_0 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_values : Ref sig .tc := ⟨.hbm, 49, rfl⟩
abbrev main_indices : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_v38 : Ref sig .tc := ⟨.hbm, 57, rfl⟩
abbrev main_c_1 : Ref sig .tc := ⟨.hbm, 58, rfl⟩
abbrev main_c_2 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_3 : Ref sig .tc := ⟨.hbm, 75, rfl⟩
abbrev main_v49 : Ref sig .tc := ⟨.hbm, 76, rfl⟩
abbrev main_v50 : Ref sig .tc := ⟨.hbm, 77, rfl⟩
abbrev main_c_4 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_5 : Ref sig .tc := ⟨.hbm, 84, rfl⟩
abbrev main_v56 : Ref sig .tc := ⟨.hbm, 85, rfl⟩
abbrev main_v57 : Ref sig .tc := ⟨.hbm, 86, rfl⟩
abbrev main_c_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_c_4 : Ref sig .tc := ⟨.hbm, 119, rfl⟩
abbrev main_call2_v15 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_c_4 : Ref sig .tc := ⟨.hbm, 144, rfl⟩
abbrev main_call3_v15 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_c_4 : Ref sig .tc := ⟨.hbm, 169, rfl⟩
abbrev main_call4_v15 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_call5_c : Ref sig .tc := ⟨.hbm, 174, rfl⟩
abbrev main_call5_v0 : Ref sig .tc := ⟨.hbm, 175, rfl⟩
abbrev main_call5_v1 : Ref sig .tc := ⟨.hbm, 176, rfl⟩
abbrev main_call5_c_0 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_c_1 : Ref sig .tc := ⟨.hbm, 182, rfl⟩
abbrev main_call5_c_2 : Ref sig .tc := ⟨.hbm, 183, rfl⟩
abbrev main_call5_v6 : Ref sig .tc := ⟨.hbm, 184, rfl⟩
abbrev main_call5_v7 : Ref sig .tc := ⟨.hbm, 185, rfl⟩
abbrev main_call5_v8 : Ref sig .tc := ⟨.hbm, 186, rfl⟩
abbrev main_call5_v9 : Ref sig .tc := ⟨.hbm, 187, rfl⟩
abbrev main_call5_v10 : Ref sig .tc := ⟨.hbm, 188, rfl⟩
abbrev main_call5_v11 : Ref sig .tc := ⟨.hbm, 189, rfl⟩
abbrev main_call5_c_3 : Ref sig .tc := ⟨.hbm, 190, rfl⟩
abbrev main_call5_v12 : Ref sig .tc := ⟨.hbm, 191, rfl⟩
abbrev main_call5_v13 : Ref sig .tc := ⟨.hbm, 192, rfl⟩
abbrev main_call5_v14 : Ref sig .tc := ⟨.hbm, 193, rfl⟩
abbrev main_call5_c_4 : Ref sig .tc := ⟨.hbm, 194, rfl⟩
abbrev main_call5_v15 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_call6_c : Ref sig .tc := ⟨.hbm, 199, rfl⟩
abbrev main_call6_v0 : Ref sig .tc := ⟨.hbm, 200, rfl⟩
abbrev main_call6_v1 : Ref sig .tc := ⟨.hbm, 201, rfl⟩
abbrev main_call6_c_0 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_v5 : Ref sig .tc := ⟨.hbm, 206, rfl⟩
abbrev main_call6_c_1 : Ref sig .tc := ⟨.hbm, 207, rfl⟩
abbrev main_call6_c_2 : Ref sig .tc := ⟨.hbm, 208, rfl⟩
abbrev main_call6_v6 : Ref sig .tc := ⟨.hbm, 209, rfl⟩
abbrev main_call6_v7 : Ref sig .tc := ⟨.hbm, 210, rfl⟩
abbrev main_call6_v8 : Ref sig .tc := ⟨.hbm, 211, rfl⟩
abbrev main_call6_v9 : Ref sig .tc := ⟨.hbm, 212, rfl⟩
abbrev main_call6_v10 : Ref sig .tc := ⟨.hbm, 213, rfl⟩
abbrev main_call6_v11 : Ref sig .tc := ⟨.hbm, 214, rfl⟩
abbrev main_call6_c_3 : Ref sig .tc := ⟨.hbm, 215, rfl⟩
abbrev main_call6_v12 : Ref sig .tc := ⟨.hbm, 216, rfl⟩
abbrev main_call6_v13 : Ref sig .tc := ⟨.hbm, 217, rfl⟩
abbrev main_call6_v14 : Ref sig .tc := ⟨.hbm, 218, rfl⟩
abbrev main_call6_c_4 : Ref sig .tc := ⟨.hbm, 219, rfl⟩
abbrev main_call6_v15 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_call7_c : Ref sig .tc := ⟨.hbm, 224, rfl⟩
abbrev main_call7_v0 : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_c_1 : Ref sig .tc := ⟨.hbm, 232, rfl⟩
abbrev main_call7_c_2 : Ref sig .tc := ⟨.hbm, 233, rfl⟩
abbrev main_call7_v6 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_c_3 : Ref sig .tc := ⟨.hbm, 240, rfl⟩
abbrev main_call7_v12 : Ref sig .tc := ⟨.hbm, 241, rfl⟩
abbrev main_call7_v13 : Ref sig .tc := ⟨.hbm, 242, rfl⟩
abbrev main_call7_v14 : Ref sig .tc := ⟨.hbm, 243, rfl⟩
abbrev main_call7_c_4 : Ref sig .tc := ⟨.hbm, 244, rfl⟩
abbrev main_call7_v15 : Ref sig .tc := ⟨.hbm, 245, rfl⟩
abbrev main_v84 : Ref sig .tc := ⟨.hbm, 246, rfl⟩
abbrev main_v85 : Ref sig .tc := ⟨.hbm, 247, rfl⟩
abbrev main_v86 : Ref sig .tc := ⟨.hbm, 248, rfl⟩
abbrev main_call8_c : Ref sig .tc := ⟨.hbm, 249, rfl⟩
abbrev main_call8_v0 : Ref sig .tc := ⟨.hbm, 250, rfl⟩
abbrev main_call8_v1 : Ref sig .tc := ⟨.hbm, 251, rfl⟩
abbrev main_call8_c_0 : Ref sig .tc := ⟨.hbm, 252, rfl⟩
abbrev main_call8_v2 : Ref sig .tc := ⟨.hbm, 253, rfl⟩
abbrev main_call8_v3 : Ref sig .tc := ⟨.hbm, 254, rfl⟩
abbrev main_call8_v4 : Ref sig .tc := ⟨.hbm, 255, rfl⟩
abbrev main_call8_v5 : Ref sig .tc := ⟨.hbm, 256, rfl⟩
abbrev main_call8_c_1 : Ref sig .tc := ⟨.hbm, 257, rfl⟩
abbrev main_call8_c_2 : Ref sig .tc := ⟨.hbm, 258, rfl⟩
abbrev main_call8_v6 : Ref sig .tc := ⟨.hbm, 259, rfl⟩
abbrev main_call8_v7 : Ref sig .tc := ⟨.hbm, 260, rfl⟩
abbrev main_call8_v8 : Ref sig .tc := ⟨.hbm, 261, rfl⟩
abbrev main_call8_v9 : Ref sig .tc := ⟨.hbm, 262, rfl⟩
abbrev main_call8_v10 : Ref sig .tc := ⟨.hbm, 263, rfl⟩
abbrev main_call8_v11 : Ref sig .tc := ⟨.hbm, 264, rfl⟩
abbrev main_call8_c_3 : Ref sig .tc := ⟨.hbm, 265, rfl⟩
abbrev main_call8_v12 : Ref sig .tc := ⟨.hbm, 266, rfl⟩
abbrev main_call8_v13 : Ref sig .tc := ⟨.hbm, 267, rfl⟩
abbrev main_call8_v14 : Ref sig .tc := ⟨.hbm, 268, rfl⟩
abbrev main_call8_c_4 : Ref sig .tc := ⟨.hbm, 269, rfl⟩
abbrev main_call8_v15 : Ref sig .tc := ⟨.hbm, 270, rfl⟩
abbrev main_v87 : Ref sig .tc := ⟨.hbm, 271, rfl⟩
abbrev main_v88 : Ref sig .tc := ⟨.hbm, 272, rfl⟩
abbrev main_v89 : Ref sig .tc := ⟨.hbm, 273, rfl⟩
abbrev main_call9_c : Ref sig .tc := ⟨.hbm, 274, rfl⟩
abbrev main_call9_v0 : Ref sig .tc := ⟨.hbm, 275, rfl⟩
abbrev main_call9_v1 : Ref sig .tc := ⟨.hbm, 276, rfl⟩
abbrev main_call9_c_0 : Ref sig .tc := ⟨.hbm, 277, rfl⟩
abbrev main_call9_v2 : Ref sig .tc := ⟨.hbm, 278, rfl⟩
abbrev main_call9_v3 : Ref sig .tc := ⟨.hbm, 279, rfl⟩
abbrev main_call9_v4 : Ref sig .tc := ⟨.hbm, 280, rfl⟩
abbrev main_call9_v5 : Ref sig .tc := ⟨.hbm, 281, rfl⟩
abbrev main_call9_c_1 : Ref sig .tc := ⟨.hbm, 282, rfl⟩
abbrev main_call9_c_2 : Ref sig .tc := ⟨.hbm, 283, rfl⟩
abbrev main_call9_v6 : Ref sig .tc := ⟨.hbm, 284, rfl⟩
abbrev main_call9_v7 : Ref sig .tc := ⟨.hbm, 285, rfl⟩
abbrev main_call9_v8 : Ref sig .tc := ⟨.hbm, 286, rfl⟩
abbrev main_call9_v9 : Ref sig .tc := ⟨.hbm, 287, rfl⟩
abbrev main_call9_v10 : Ref sig .tc := ⟨.hbm, 288, rfl⟩
abbrev main_call9_v11 : Ref sig .tc := ⟨.hbm, 289, rfl⟩
abbrev main_call9_c_3 : Ref sig .tc := ⟨.hbm, 290, rfl⟩
abbrev main_call9_v12 : Ref sig .tc := ⟨.hbm, 291, rfl⟩
abbrev main_call9_v13 : Ref sig .tc := ⟨.hbm, 292, rfl⟩
abbrev main_call9_v14 : Ref sig .tc := ⟨.hbm, 293, rfl⟩
abbrev main_call9_c_4 : Ref sig .tc := ⟨.hbm, 294, rfl⟩
abbrev main_call9_v15 : Ref sig .tc := ⟨.hbm, 295, rfl⟩
abbrev main_v90 : Ref sig .tc := ⟨.hbm, 296, rfl⟩
abbrev main_v91 : Ref sig .tc := ⟨.hbm, 297, rfl⟩
abbrev main_v92 : Ref sig .tc := ⟨.hbm, 298, rfl⟩
abbrev main_call10_c : Ref sig .tc := ⟨.hbm, 299, rfl⟩
abbrev main_call10_v0 : Ref sig .tc := ⟨.hbm, 300, rfl⟩
abbrev main_call10_v1 : Ref sig .tc := ⟨.hbm, 301, rfl⟩
abbrev main_call10_c_0 : Ref sig .tc := ⟨.hbm, 302, rfl⟩
abbrev main_call10_v2 : Ref sig .tc := ⟨.hbm, 303, rfl⟩
abbrev main_call10_v3 : Ref sig .tc := ⟨.hbm, 304, rfl⟩
abbrev main_call10_v4 : Ref sig .tc := ⟨.hbm, 305, rfl⟩
abbrev main_call10_v5 : Ref sig .tc := ⟨.hbm, 306, rfl⟩
abbrev main_call10_c_1 : Ref sig .tc := ⟨.hbm, 307, rfl⟩
abbrev main_call10_c_2 : Ref sig .tc := ⟨.hbm, 308, rfl⟩
abbrev main_call10_v6 : Ref sig .tc := ⟨.hbm, 309, rfl⟩
abbrev main_call10_v7 : Ref sig .tc := ⟨.hbm, 310, rfl⟩
abbrev main_call10_v8 : Ref sig .tc := ⟨.hbm, 311, rfl⟩
abbrev main_call10_v9 : Ref sig .tc := ⟨.hbm, 312, rfl⟩
abbrev main_call10_v10 : Ref sig .tc := ⟨.hbm, 313, rfl⟩
abbrev main_call10_v11 : Ref sig .tc := ⟨.hbm, 314, rfl⟩
abbrev main_call10_c_3 : Ref sig .tc := ⟨.hbm, 315, rfl⟩
abbrev main_call10_v12 : Ref sig .tc := ⟨.hbm, 316, rfl⟩
abbrev main_call10_v13 : Ref sig .tc := ⟨.hbm, 317, rfl⟩
abbrev main_call10_v14 : Ref sig .tc := ⟨.hbm, 318, rfl⟩
abbrev main_call10_c_4 : Ref sig .tc := ⟨.hbm, 319, rfl⟩
abbrev main_call10_v15 : Ref sig .tc := ⟨.hbm, 320, rfl⟩
abbrev main_v93 : Ref sig .tc := ⟨.hbm, 321, rfl⟩
abbrev main_v94 : Ref sig .tc := ⟨.hbm, 322, rfl⟩
abbrev main_v95 : Ref sig .tc := ⟨.hbm, 323, rfl⟩
abbrev main_call11_c : Ref sig .tc := ⟨.hbm, 324, rfl⟩
abbrev main_call11_v0 : Ref sig .tc := ⟨.hbm, 325, rfl⟩
abbrev main_call11_v1 : Ref sig .tc := ⟨.hbm, 326, rfl⟩
abbrev main_call11_c_0 : Ref sig .tc := ⟨.hbm, 327, rfl⟩
abbrev main_call11_v2 : Ref sig .tc := ⟨.hbm, 328, rfl⟩
abbrev main_call11_v3 : Ref sig .tc := ⟨.hbm, 329, rfl⟩
abbrev main_call11_v4 : Ref sig .tc := ⟨.hbm, 330, rfl⟩
abbrev main_call11_v5 : Ref sig .tc := ⟨.hbm, 331, rfl⟩
abbrev main_call11_c_1 : Ref sig .tc := ⟨.hbm, 332, rfl⟩
abbrev main_call11_c_2 : Ref sig .tc := ⟨.hbm, 333, rfl⟩
abbrev main_call11_v6 : Ref sig .tc := ⟨.hbm, 334, rfl⟩
abbrev main_call11_v7 : Ref sig .tc := ⟨.hbm, 335, rfl⟩
abbrev main_call11_v8 : Ref sig .tc := ⟨.hbm, 336, rfl⟩
abbrev main_call11_v9 : Ref sig .tc := ⟨.hbm, 337, rfl⟩
abbrev main_call11_v10 : Ref sig .tc := ⟨.hbm, 338, rfl⟩
abbrev main_call11_v11 : Ref sig .tc := ⟨.hbm, 339, rfl⟩
abbrev main_call11_c_3 : Ref sig .tc := ⟨.hbm, 340, rfl⟩
abbrev main_call11_v12 : Ref sig .tc := ⟨.hbm, 341, rfl⟩
abbrev main_call11_v13 : Ref sig .tc := ⟨.hbm, 342, rfl⟩
abbrev main_call11_v14 : Ref sig .tc := ⟨.hbm, 343, rfl⟩
abbrev main_call11_c_4 : Ref sig .tc := ⟨.hbm, 344, rfl⟩
abbrev main_call11_v15 : Ref sig .tc := ⟨.hbm, 345, rfl⟩
abbrev main_v96 : Ref sig .tc := ⟨.hbm, 346, rfl⟩
abbrev main_v97 : Ref sig .tc := ⟨.hbm, 347, rfl⟩
abbrev main_v98 : Ref sig .tc := ⟨.hbm, 348, rfl⟩
abbrev main_call12_c : Ref sig .tc := ⟨.hbm, 349, rfl⟩
abbrev main_call12_v0 : Ref sig .tc := ⟨.hbm, 350, rfl⟩
abbrev main_call12_v1 : Ref sig .tc := ⟨.hbm, 351, rfl⟩
abbrev main_call12_c_0 : Ref sig .tc := ⟨.hbm, 352, rfl⟩
abbrev main_call12_v2 : Ref sig .tc := ⟨.hbm, 353, rfl⟩
abbrev main_call12_v3 : Ref sig .tc := ⟨.hbm, 354, rfl⟩
abbrev main_call12_v4 : Ref sig .tc := ⟨.hbm, 355, rfl⟩
abbrev main_call12_v5 : Ref sig .tc := ⟨.hbm, 356, rfl⟩
abbrev main_call12_c_1 : Ref sig .tc := ⟨.hbm, 357, rfl⟩
abbrev main_call12_c_2 : Ref sig .tc := ⟨.hbm, 358, rfl⟩
abbrev main_call12_v6 : Ref sig .tc := ⟨.hbm, 359, rfl⟩
abbrev main_call12_v7 : Ref sig .tc := ⟨.hbm, 360, rfl⟩
abbrev main_call12_v8 : Ref sig .tc := ⟨.hbm, 361, rfl⟩
abbrev main_call12_v9 : Ref sig .tc := ⟨.hbm, 362, rfl⟩
abbrev main_call12_v10 : Ref sig .tc := ⟨.hbm, 363, rfl⟩
abbrev main_call12_v11 : Ref sig .tc := ⟨.hbm, 364, rfl⟩
abbrev main_call12_c_3 : Ref sig .tc := ⟨.hbm, 365, rfl⟩
abbrev main_call12_v12 : Ref sig .tc := ⟨.hbm, 366, rfl⟩
abbrev main_call12_v13 : Ref sig .tc := ⟨.hbm, 367, rfl⟩
abbrev main_call12_v14 : Ref sig .tc := ⟨.hbm, 368, rfl⟩
abbrev main_call12_c_4 : Ref sig .tc := ⟨.hbm, 369, rfl⟩
abbrev main_call12_v15 : Ref sig .tc := ⟨.hbm, 370, rfl⟩
abbrev main_v99 : Ref sig .tc := ⟨.hbm, 371, rfl⟩
abbrev main_v100 : Ref sig .tc := ⟨.hbm, 372, rfl⟩
abbrev main_v101 : Ref sig .tc := ⟨.hbm, 373, rfl⟩
abbrev main_call13_c : Ref sig .tc := ⟨.hbm, 374, rfl⟩
abbrev main_call13_v0 : Ref sig .tc := ⟨.hbm, 375, rfl⟩
abbrev main_call13_v1 : Ref sig .tc := ⟨.hbm, 376, rfl⟩
abbrev main_call13_c_0 : Ref sig .tc := ⟨.hbm, 377, rfl⟩
abbrev main_call13_v2 : Ref sig .tc := ⟨.hbm, 378, rfl⟩
abbrev main_call13_v3 : Ref sig .tc := ⟨.hbm, 379, rfl⟩
abbrev main_call13_v4 : Ref sig .tc := ⟨.hbm, 380, rfl⟩
abbrev main_call13_v5 : Ref sig .tc := ⟨.hbm, 381, rfl⟩
abbrev main_call13_c_1 : Ref sig .tc := ⟨.hbm, 382, rfl⟩
abbrev main_call13_c_2 : Ref sig .tc := ⟨.hbm, 383, rfl⟩
abbrev main_call13_v6 : Ref sig .tc := ⟨.hbm, 384, rfl⟩
abbrev main_call13_v7 : Ref sig .tc := ⟨.hbm, 385, rfl⟩
abbrev main_call13_v8 : Ref sig .tc := ⟨.hbm, 386, rfl⟩
abbrev main_call13_v9 : Ref sig .tc := ⟨.hbm, 387, rfl⟩
abbrev main_call13_v10 : Ref sig .tc := ⟨.hbm, 388, rfl⟩
abbrev main_call13_v11 : Ref sig .tc := ⟨.hbm, 389, rfl⟩
abbrev main_call13_c_3 : Ref sig .tc := ⟨.hbm, 390, rfl⟩
abbrev main_call13_v12 : Ref sig .tc := ⟨.hbm, 391, rfl⟩
abbrev main_call13_v13 : Ref sig .tc := ⟨.hbm, 392, rfl⟩
abbrev main_call13_v14 : Ref sig .tc := ⟨.hbm, 393, rfl⟩
abbrev main_call13_c_4 : Ref sig .tc := ⟨.hbm, 394, rfl⟩
abbrev main_call13_v15 : Ref sig .tc := ⟨.hbm, 395, rfl⟩
abbrev main_v102 : Ref sig .tc := ⟨.hbm, 396, rfl⟩
abbrev main_v103 : Ref sig .tc := ⟨.hbm, 397, rfl⟩
abbrev main_cst_7 : Ref sig .tc := ⟨.hbm, 398, rfl⟩
abbrev main_call14_v0 : Ref sig .tc := ⟨.hbm, 399, rfl⟩
abbrev main_call14_v1 : Ref sig .tc := ⟨.hbm, 400, rfl⟩
abbrev main_v104 : Ref sig .tc := ⟨.hbm, 401, rfl⟩
abbrev main_cst_8 : Ref sig .tc := ⟨.hbm, 402, rfl⟩
abbrev main_v105 : Ref sig .tc := ⟨.hbm, 403, rfl⟩
abbrev main_cst_9 : Ref sig .tc := ⟨.hbm, 404, rfl⟩
abbrev main_v106 : Ref sig .tc := ⟨.hbm, 405, rfl⟩
abbrev main_v107 : Ref sig .tc := ⟨.hbm, 406, rfl⟩
abbrev main_v108 : Ref sig .tc := ⟨.hbm, 407, rfl⟩
abbrev main_v109 : Ref sig .tc := ⟨.hbm, 408, rfl⟩
abbrev main_v110 : Ref sig .tc := ⟨.hbm, 409, rfl⟩
abbrev main_v111 : Ref sig .tc := ⟨.hbm, 410, rfl⟩
abbrev main_cst_10 : Ref sig .tc := ⟨.hbm, 411, rfl⟩
abbrev main_v112 : Ref sig .tc := ⟨.hbm, 412, rfl⟩
abbrev main_v113 : Ref sig .tc := ⟨.hbm, 413, rfl⟩
abbrev main_v114 : Ref sig .tc := ⟨.hbm, 414, rfl⟩
abbrev main_v115 : Ref sig .tc := ⟨.hbm, 415, rfl⟩
abbrev main_v116 : Ref sig .tc := ⟨.hbm, 416, rfl⟩
abbrev main_v117 : Ref sig .tc := ⟨.hbm, 417, rfl⟩
abbrev main_v118 : Ref sig .tc := ⟨.hbm, 418, rfl⟩
abbrev main_v119 : Ref sig .tc := ⟨.hbm, 419, rfl⟩
abbrev main_v120 : Ref sig .tc := ⟨.hbm, 420, rfl⟩
abbrev main_v121 : Ref sig .tc := ⟨.hbm, 421, rfl⟩
abbrev main_v122 : Ref sig .tc := ⟨.hbm, 422, rfl⟩
abbrev main_v123 : Ref sig .tc := ⟨.hbm, 423, rfl⟩
abbrev main_v124 : Ref sig .tc := ⟨.hbm, 424, rfl⟩

abbrev nD : Nat := 1
abbrev τ : Topo := Topo.v7x

variable {F : FTy → Type} [FloatOps F]
-- ==== Proof.Core.lean ====
module
public import Idealize.ShloMosaic.Lib.Pointwise
public import Idealize.ShloMosaic.Lib.SortPrefix
/-!
Attention over forty keys per query, and the law that joins it: a softmax over a band of keys, where all but a window count for minus infinity, together
with eight more keys, is the softmax over the window and the eight.
-/

@[expose] public section
noncomputable section
open Idealize.ShloMosaic
namespace Cert.Attn

/-- The first key of the window of keys that query `t` sees. -/
def winStart (t : Nat) : Nat := min 2016 (t - 16)

/-- The `m`-th key that query `t` sees: first the eight global keys, then the window's 32. -/
def sel (g : Fin 8 → Fin 2048) (t : Fin 2048) (m : Fin 40) : Fin 2048 :=
  if h : m.val < 8 then g ⟨m.val, h⟩
  else ⟨winStart t.val + (m.val - 8), by have h1 : winStart t.val ≤ 2016 := min_le_left _ _; omega⟩

/-- Column `d` of head `h`. -/
def col (h : Fin 12) (d : Fin 64) : Fin 768 := ⟨64 * h.val + d.val, by omega⟩

/-- The score of key `s` for query `t` in head `h`. -/
def score (Q K : Fin 2048 → Fin 768 → EReal) (h : Fin 12) (t s : Fin 2048) : EReal :=
  ∑ d : Fin 64, Q t (col h d) * K s (col h d)

/-- The average of the values `v` weighted by the softmax of the scores `S`. -/
def softAvg {n : Nat} (S v : Fin n → EReal) : EReal :=
  ∑ m, Ideal.div (Ideal.exp (S m - Finset.univ.fold max ⊥ S))
    (∑ m', Ideal.exp (S m' - Finset.univ.fold max ⊥ S)) * v m

/-- The attention output of query `t` in head `h`, at column `d` of the head. -/
def attend (Q K V : Fin 2048 → Fin 768 → EReal) (g : Fin 8 → Fin 2048) (h : Fin 12) (t : Fin 2048) (d : Fin 64) : EReal :=
  softAvg (fun m => score Q K h t (sel g t m)) (fun m => V (sel g t m) (col h d))

/-- A number that is neither infinity. -/
def IsReal (x : EReal) : Prop := ∃ r : ℝ, x = (r : EReal)

/-- The sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- The product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A finite number's absolute value is below infinity, and conversely. -/
theorem IsReal.of_abs_lt {x : EReal} (h : max x (-x) < ⊤) : IsReal x := by
  induction x with
  | bot => simp at h
  | top => simp at h
  | coe r => exact ⟨r, rfl⟩

/-- Scores of finite queries and keys are finite. -/
theorem score_fin {Q K : Fin 2048 → Fin 768 → EReal} (hQ : ∀ t c, IsReal (Q t c)) (hK : ∀ t c, IsReal (K t c))
    (h : Fin 12) (t s : Fin 2048) : IsReal (score Q K h t s) :=
  IsReal.sum _ _ fun d _ => (hQ _ _).mul (hK _ _)

/-- Multiplying a sum by a finite nonnegative number, term by term. -/
theorem sum_mul_of_nonneg {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The greatest of finitely many finite numbers is finite. -/
theorem foldMax_fin {n : Nat} (hn : 0 < n) (S : Fin n → EReal) (h : ∀ m, IsReal (S m)) : IsReal (Finset.univ.fold max ⊥ S) := by
  obtain ⟨m, -, hm⟩ := Finset.exists_mem_eq_sup (Finset.univ : Finset (Fin n)) ⟨⟨0, hn⟩, Finset.mem_univ _⟩ S
  have e : Finset.univ.fold max ⊥ S = Finset.univ.sup S := rfl
  rw [e, hm]
  exact h m

/-- Each weight of a softmax of finite scores is a nonnegative real before division, and their sum a positive real. -/
theorem weight_real {n : Nat} (hn : 0 < n) (S : Fin n → EReal) (h : ∀ m, IsReal (S m)) :
    ∃ p : Fin n → ℝ, (∀ m, 0 < p m) ∧ ∀ m, Ideal.exp (S m - Finset.univ.fold max ⊥ S) = (p m : EReal) := by
  obtain ⟨M, hM⟩ := foldMax_fin hn S h
  choose s hs using h
  refine ⟨fun m => Real.exp (s m - M), fun m => Real.exp_pos _, fun m => ?_⟩
  rw [hM, hs m, ← EReal.coe_sub, Ideal.exp_coe]

/-- A sum of real numbers is the same taken among the extended reals. -/
theorem coe_sum {n : Nat} (p : Fin n → ℝ) : ∑ m, ((p m : ℝ) : EReal) = ((∑ m, p m : ℝ) : EReal) := by
  induction n with
  | zero => simp
  | succ n ih => rw [Fin.sum_univ_castSucc, Fin.sum_univ_castSucc, ih, EReal.coe_add]

/-- A softmax average is the weighted sum divided once by the sum of the weights. -/
theorem softAvg_eq {n : Nat} (hn : 0 < n) (S v : Fin n → EReal) (h : ∀ m, IsReal (S m)) :
    softAvg S v = Ideal.div (∑ m, Ideal.exp (S m - Finset.univ.fold max ⊥ S) * v m)
      (∑ m, Ideal.exp (S m - Finset.univ.fold max ⊥ S)) := by
  obtain ⟨p, hp, e⟩ := weight_real hn S h
  have hD : 0 < ∑ m, p m := Finset.sum_pos (fun m _ => hp m) ⟨⟨0, hn⟩, Finset.mem_univ _⟩
  have hD' : (∑ m, p m) ≠ 0 := hD.ne'
  unfold softAvg
  simp only [e, coe_sum, Ideal.div_coe hD']
  rw [sum_mul_of_nonneg _ _ _ (by positivity)]
  exact Finset.sum_congr rfl fun m _ => by rw [mul_assoc, mul_assoc, mul_comm _ (v m)]

/-- A sum whose terms vanish off a window is the sum over the window. -/
theorem sum_window (F : Fin 288 → EReal) (o : Nat) (ho : o + 32 ≤ 288) (hF : ∀ c : Fin 288, ¬ (o ≤ c.val ∧ c.val < o + 32) → F c = 0) :
    ∑ c, F c = ∑ j : Fin 32, F ⟨o + j.val, by omega⟩ := by
  symm
  refine Finset.sum_of_injOn (fun j : Fin 32 => (⟨o + j.val, by omega⟩ : Fin 288)) ?_ ?_ ?_ ?_
  · intro a _ b _ hab
    have : o + a.val = o + b.val := congrArg Fin.val hab
    exact Fin.ext (by omega)
  · intro a _; exact Finset.mem_coe.mpr (Finset.mem_univ _)
  · intro c _ hc
    refine hF c fun hw => hc ⟨⟨c.val - o, by omega⟩, Finset.mem_coe.mpr (Finset.mem_univ _), Fin.ext ?_⟩
    show o + (c.val - o) = c.val
    omega
  · intro a _; rfl

/-- The kernel's attention, over a band of 288 keys of which a window of 32 is seen and the rest masked with
    −∞, and the eight global keys beside it, is the softmax average over the 40 keys seen. -/
theorem softAvg_split (S v : Fin 40 → EReal) (h : ∀ m, IsReal (S m)) (sb vb : Fin 288 → EReal) (sg vg : Fin 8 → EReal)
    (o : Nat) (ho : o + 32 ≤ 288)
    (hSg : ∀ m : Fin 8, sg m = S ⟨m.val, by omega⟩) (hvg : ∀ m : Fin 8, vg m = v ⟨m.val, by omega⟩)
    (hSb : ∀ j : Fin 32, sb ⟨o + j.val, by omega⟩ = S ⟨8 + j.val, by omega⟩)
    (hvb : ∀ j : Fin 32, vb ⟨o + j.val, by omega⟩ = v ⟨8 + j.val, by omega⟩)
    (hb : ∀ c : Fin 288, ¬ (o ≤ c.val ∧ c.val < o + 32) → sb c = ⊥) :
    Ideal.div (∑ c, Ideal.exp (sb c - max (Finset.univ.fold max ⊥ sb) (Finset.univ.fold max ⊥ sg)) * vb c
        + ∑ m, Ideal.exp (sg m - max (Finset.univ.fold max ⊥ sb) (Finset.univ.fold max ⊥ sg)) * vg m)
      (∑ c, Ideal.exp (sb c - max (Finset.univ.fold max ⊥ sb) (Finset.univ.fold max ⊥ sg))
        + ∑ m, Ideal.exp (sg m - max (Finset.univ.fold max ⊥ sb) (Finset.univ.fold max ⊥ sg)))
      = softAvg S v := by
  have eM : max (Finset.univ.fold max ⊥ sb) (Finset.univ.fold max ⊥ sg) = Finset.univ.fold max ⊥ S := by
    show max (Finset.univ.sup sb) (Finset.univ.sup sg) = Finset.univ.sup S
    refine le_antisymm (max_le (Finset.sup_le fun c _ => ?_) (Finset.sup_le fun m _ => ?_)) (Finset.sup_le fun m _ => ?_)
    · by_cases hc : o ≤ c.val ∧ c.val < o + 32
      · have e : c = ⟨o + (⟨c.val - o, by omega⟩ : Fin 32).val, by show o + (c.val - o) < 288; omega⟩ :=
          Fin.ext (by show c.val = o + (c.val - o); omega)
        rw [e, hSb]
        exact Finset.le_sup (f := S) (Finset.mem_univ _)
      · rw [hb c hc]; exact bot_le
    · rw [hSg]; exact Finset.le_sup (f := S) (Finset.mem_univ _)
    · by_cases hm : m.val < 8
      · refine le_max_of_le_right ?_
        have e : S m = sg ⟨m.val, hm⟩ := (hSg ⟨m.val, hm⟩).symm
        rw [e]; exact Finset.le_sup (f := sg) (Finset.mem_univ _)
      · refine le_max_of_le_left ?_
        have e : S m = sb ⟨o + (⟨m.val - 8, by omega⟩ : Fin 32).val, by show o + (m.val - 8) < 288; omega⟩ :=
          (congrArg S (Fin.ext (by show m.val = 8 + (m.val - 8); omega))).trans (hSb ⟨m.val - 8, by omega⟩).symm
        rw [e]; exact Finset.le_sup (f := sb) (Finset.mem_univ _)
  rw [eM, softAvg_eq (by decide) S v h]
  obtain ⟨M, hM⟩ := foldMax_fin (by decide) S h
  have hz : ∀ c : Fin 288, ¬ (o ≤ c.val ∧ c.val < o + 32) → Ideal.exp (sb c - Finset.univ.fold max ⊥ S) = 0 := by
    intro c hc
    rw [hb c hc, hM, EReal.bot_sub]
    exact Ideal.exp_bot
  rw [sum_window (fun c => Ideal.exp (sb c - Finset.univ.fold max ⊥ S) * vb c) o ho (fun c hc => by rw [hz c hc, zero_mul]),
    sum_window (fun c => Ideal.exp (sb c - Finset.univ.fold max ⊥ S)) o ho hz]
  have split : ∀ F : Fin 40 → EReal, ∑ m, F m = ∑ j : Fin 32, F ⟨8 + j.val, by omega⟩ + ∑ m : Fin 8, F ⟨m.val, by omega⟩ := by
    intro F
    rw [add_comm]
    exact Fin.sum_univ_add (a := 8) (b := 32) F
  rw [split (fun m => Ideal.exp (S m - Finset.univ.fold max ⊥ S) * v m), split (fun m => Ideal.exp (S m - Finset.univ.fold max ⊥ S))]
  simp only [hSb, hvb, hSg, hvg]

end Cert.Attn
end
-- ==== Proof.TopK.lean ====
module

public import proofs.«01_k».proof.Proof.Core
public import Idealize.ShloMosaic.Lib.SortPrefix
public import Idealize.ShloMosaic.Lib.Pipeline.ValueKit
public import Idealize.ShloMosaic.Lib.WordCmp
public import Idealize.ShloMosaic.PureOps.Ideal

/-!
Eight rounds of taking the first position of the greatest value and lowering it to minus infinity pick the positions that a stable descending sort has
first.
-/

@[expose] public section

set_option maxRecDepth 16384

noncomputable section

namespace Cert.Attn

open Idealize.ShloMosaic

/-- Some position holds the greatest value, and every position before it holds less. -/
theorem exists_best (w : Fin 2048 → EReal) : ∃ p, (∀ q, w q ≤ w p) ∧ ∀ q, q < p → w q < w p := by
  obtain ⟨p, hp, hmin⟩ := WellFounded.has_min (wellFounded_lt (α := Fin 2048)) {p | ∀ q, w q ≤ w p} (Finite.exists_max w)
  refine ⟨p, hp, fun q hq => ?_⟩
  by_contra h
  exact hmin q (fun r => (hp r).trans (not_lt.mp h)) hq

/-- The first position holding the greatest value. -/
def best (w : Fin 2048 → EReal) : Fin 2048 := (exists_best w).choose

/-- No value exceeds the one at the best position. -/
theorem le_best (w : Fin 2048 → EReal) (q) : w q ≤ w (best w) := (exists_best w).choose_spec.1 q
/-- Every value before the best position is less than the one there. -/
theorem lt_best (w : Fin 2048 → EReal) (q) (h : q < best w) : w q < w (best w) := (exists_best w).choose_spec.2 q h

/-- The values after `n` rounds of picking the best and striking it out. -/
def stage (f : Fin 2048 → EReal) : ℕ → Fin 2048 → EReal
  | 0 => f
  | n + 1 => Function.update (stage f n) (best (stage f n)) ⊥

/-- The `m`-th pick. -/
def picks (f : Fin 2048 → EReal) (m : Fin 8) : Fin 2048 := best (stage f m.val)

/-- After `n` rounds the positions picked hold minus infinity and the others their value. -/
theorem stage_apply (f : Fin 2048 → EReal) (n : ℕ) (p) :
    stage f n p = if ∃ i < n, best (stage f i) = p then ⊥ else f p := by
  induction n with
  | zero => simp [stage]
  | succ n ih =>
    show Function.update (stage f n) (best (stage f n)) ⊥ p = _
    by_cases h : p = best (stage f n)
    · subst h; rw [Function.update_self, if_pos ⟨n, n.lt_succ_self, rfl⟩]
    · rw [Function.update_of_ne h, ih]
      refine if_congr ⟨fun ⟨i, hi, e⟩ => ⟨i, by omega, e⟩, fun ⟨i, hi, e⟩ => ⟨i, ?_, e⟩⟩ rfl rfl
      rcases Nat.lt_succ_iff_lt_or_eq.mp hi with h' | rfl
      · exact h'
      · exact absurd e.symm h

/-- A pick among the first rounds is a position not picked before, its value above minus infinity throughout. -/
theorem best_new (f : Fin 2048 → EReal) (hf : ∀ p, f p ≠ ⊥) (n : ℕ) (hn : n < 2048) : ¬ ∃ i < n, best (stage f i) = best (stage f n) := by
  classical
  intro h
  have hb : stage f n (best (stage f n)) = ⊥ := by rw [stage_apply, if_pos h]
  have hex : ∃ p, p ∉ (Finset.range n).image fun i => best (stage f i) := by
    by_contra hall
    push Not at hall
    have h1 : Fintype.card (Fin 2048) ≤ ((Finset.range n).image fun i => best (stage f i)).card :=
      Finset.card_le_card fun p _ => hall p
    have h2 : ((Finset.range n).image fun i => best (stage f i)).card ≤ n := by
      simpa using Finset.card_image_le (s := Finset.range n) (f := fun i => best (stage f i))
    rw [Fintype.card_fin] at h1
    omega
  obtain ⟨p, hp⟩ := hex
  have hle := le_best (stage f n) p
  rw [hb, le_bot_iff, stage_apply, if_neg (by simpa using hp)] at hle
  exact hf p hle

/-- The order a top-k sorts by: greater value first, then lower position. -/
def before (f : Fin 2048 → EReal) (k k' : Fin 2048) : Bool := decide (f k' < f k) || (decide (f k = f k') && decide (k < k'))

/-- That order is a strict total order on positions. -/
theorem before_total (f : Fin 2048 → EReal) : StrictTotalBefore (before f) := by
  classical
  refine StrictTotalBefore.of_key_then_position (fun a b : EReal => decide (b < a)) f (by simp) ?_ ?_
  · intro a b c h1 h2
    simp only [decide_eq_true_eq] at *
    exact h2.trans h1
  · intro a b
    simp only [decide_eq_true_eq]
    rcases lt_trichotomy a b with h | h | h
    · exact Or.inr (Or.inr h)
    · exact Or.inr (Or.inl h)
    · exact Or.inl h

/-- Nothing unpicked goes before the round's pick. -/
theorem not_before_best (f : Fin 2048 → EReal) (hf : ∀ p, f p ≠ ⊥) (n : ℕ) (hn : n < 2048) (p) (hp : ¬ ∃ i < n, best (stage f i) = p) :
    before f p (best (stage f n)) = false := by
  have e1 : stage f n p = f p := by rw [stage_apply, if_neg hp]
  have e2 : stage f n (best (stage f n)) = f (best (stage f n)) := by rw [stage_apply, if_neg (best_new f hf n hn)]
  have h1 := le_best (stage f n) p
  rw [e1, e2] at h1
  unfold before
  simp only [Bool.or_eq_false_iff, Bool.and_eq_false_imp, decide_eq_false_iff_not, decide_eq_true_eq]
  refine ⟨not_lt.mpr h1, fun e hlt => ?_⟩
  have h2 := lt_best (stage f n) p hlt
  rw [e1, e2, e] at h2
  exact lt_irrefl _ h2

/-- The stable sort of positions by value alone, in position order, is the sort by value and then position. -/
theorem stableSort_key {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [insertBefore_congr R R' a _ fun b hb => h a b (hl.1 b ((perm_stableSort R l).mem_iff.mp hb)), ih hl.2]

/-- Sorting the positions by value alone is sorting them by value and then position. -/
theorem sortedFrom_key {n : ℕ} (R R' : Fin n → Fin n → Bool) (h : ∀ a b, a < b → R b a = R' b a) : sortedFrom R = sortedFrom R' := by
  have e : sortPositions n R = sortPositions n R' := stableSort_key R R' h _ (List.pairwise_lt_finRange n)
  funext k
  unfold sortedFrom
  rw [List.get_of_eq e]
  rfl

/-- The sort by value finds, in its first eight places, the eight picks. -/
theorem sortedFrom_eq_picks (f : Fin 2048 → EReal) (hf : ∀ p, f p ≠ ⊥) (R : Fin 2048 → Fin 2048 → Bool)
    (hR : ∀ a b, R a b = decide (f b < f a)) (m : Fin 8) : sortedFrom R (m.castLE (by decide)) = picks f m := by
  rw [sortedFrom_key R (before f) fun a b hab => by
    rw [hR]; unfold before; rw [decide_eq_false (not_lt.mpr hab.le), Bool.and_false, Bool.or_false]]
  have hne : ∀ i j : Fin 8, i < j → picks f i ≠ picks f j := fun i j hij e =>
    best_new f hf j.val (by omega) ⟨i.val, hij, e⟩
  refine (before_total f).sortedFrom_eq_of_prefix (by decide) (picks f) ?_ ?_ ?_ m
  · intro i j e
    rcases lt_trichotomy i j with h | h | h
    · exact absurd e (hne i j h)
    · exact h
    · exact absurd e.symm (hne j i h)
  · intro i j hij
    refine not_before_best f hf i.val (by omega) _ ?_
    rintro ⟨k, hk, e⟩
    exact hne ⟨k, by omega⟩ j (lt_trans (b := i) hk hij) e
  · intro i p hp
    exact not_before_best f hf i.val (by omega) p fun ⟨k, hk, e⟩ => hp ⟨k, by omega⟩ e

/-- The indices of the eight greatest of 2048 values, as the host's top-k gives them. -/
theorem topK_indices (x : (⟨2, ![1, 2048]⟩ : Shape).Idx → Ideal .f32) (f : Fin 2048 → EReal) (hf : ∀ p, f p ≠ ⊥)
    (hx : ∀ p : Fin 2048, x (ix2 0 p) = f p) (h : Shape.Slices (⟨2, ![1, 2048]⟩ : Shape) (fun _ => 0) ⟨2, ![1, 8]⟩) (m : Fin 8) :
    (Host.topK ⟨2, ![1, 8]⟩ 1 (FloatOps.cmpfTotal (F := Ideal) .gt) x h).2 (ix2 0 m) = BitVec.ofNat 32 (picks f m).val := by
  rw [← sortedFrom_eq_picks f hf (fun k k' => FloatOps.cmpfTotal (F := Ideal) (φ := .f32) .gt (x (ix2 0 k)) (x (ix2 0 k')) == 1#1) ?_ m]
  · have hal : ∀ (j : (⟨2, ![1, 2048]⟩ : Shape).Idx) (k : Fin ((⟨2, ![1, 2048]⟩ : Shape).size 1)), j.along 1 k = ix2 0 k := fun j k => by
      funext a
      match a with
      | 0 => exact Fin.ext (by have h0 : (j 0).val < 1 := (j 0).isLt; show (j 0).val = 0; omega)
      | 1 => exact Function.update_self _ _ _
    have hs : ∀ (j : (⟨2, ![1, 2048]⟩ : Shape).Idx), (Host.sort2 (⟨2, ![1, 2048]⟩ : Shape) 1 (fun l r : Ideal .f32 × BitVec 32 => FloatOps.cmpfTotal (F := Ideal) .gt l.1 r.1) x
        (fun i => if hd : 1 < (⟨2, ![1, 2048]⟩ : Shape).rank then iotaInDim (⟨2, ![1, 2048]⟩ : Shape) 32 ⟨1, hd⟩ i else 0#32)).2 j
        = BitVec.ofNat 32 (sortedFrom (fun k k' => FloatOps.cmpfTotal (F := Ideal) (φ := .f32) .gt (x (ix2 0 k)) (x (ix2 0 k')) == 1#1) (j 1)).val := fun j => by
      unfold Host.sort2
      rw [dif_pos (show 1 < (⟨2, ![1, 2048]⟩ : Shape).rank by decide)]
      dsimp only
      rw [dif_pos (show 1 < (⟨2, ![1, 2048]⟩ : Shape).rank by decide)]
      refine congrArg (fun k : Fin 2048 => BitVec.ofNat 32 k.val) ((Function.update_self _ _ _).trans ?_)
      have e : (fun k k' : Fin 2048 => FloatOps.cmpfTotal (F := Ideal) (φ := .f32) .gt (x (j.along 1 k)) (x (j.along 1 k')) == 1#1)
        = fun k k' => FloatOps.cmpfTotal (F := Ideal) (φ := .f32) .gt (x (ix2 0 k)) (x (ix2 0 k')) == 1#1 := by
        funext k k'
        exact congrArg₂ (fun a b => FloatOps.cmpfTotal (F := Ideal) (φ := .f32) .gt (x a) (x b) == 1#1) (hal j k) (hal j k')
      exact congrFun (congrArg sortedFrom e) (j 1)
    refine (hs _).trans (congrArg (fun k : Fin 2048 => BitVec.ofNat 32 (sortedFrom _ k).val) (Fin.ext ?_))
    show 0 + m.val = m.val
    omega
  · intro a b
    rw [hx, hx]
    show (BitVec.ofBool (decide (f b < f a)) == 1#1) = _
    cases decide (f b < f a) <;> rfl

/-- A fold of an idempotent, commutative, associative operation is the value that absorbs all the others. -/
theorem fold_absorb {α β : Type} (op : β → β → β) [Std.Commutative op] [Std.Associative op] (init a : β) (s : Finset α) (u : α → β)
    (hself : op a a = a) (hinit : op a init = a) (hall : ∀ x ∈ s, op a (u x) = a) (hmem : ∃ x ∈ s, u x = a) : s.fold op init u = a := by
  classical
  have key : ∀ s : Finset α, (∀ x ∈ s, op a (u x) = a) → op a (s.fold op init u) = a := by
    intro s
    induction s using Finset.induction_on with
    | empty => intro _; rw [Finset.fold_empty, hinit]
    | insert x s hx ih =>
      intro h
      rw [Finset.fold_insert hx, ← Std.Associative.assoc (op := op), h x (Finset.mem_insert_self _ _)]
      exact ih fun y hy => h y (Finset.mem_insert_of_mem hy)
  obtain ⟨x, hx, e⟩ := hmem
  rw [← Finset.insert_erase hx, Finset.fold_insert (Finset.notMem_erase x s), e]
  exact key _ fun y hy => hall y (Finset.mem_of_mem_erase hy)

/-- The signed lesser of two small numbers' words. -/
theorem minsi_ofNat (a b : ℕ) (ha : a < 2 ^ 31) (hb : b < 2 ^ 31) (h : a ≤ b) : IntOp.minsi (BitVec.ofNat 32 a) (BitVec.ofNat 32 b) = BitVec.ofNat 32 a := by
  have hs : BitVec.ofBool ((BitVec.ofNat 32 a).slt (BitVec.ofNat 32 b)) = BitVec.ofBool (decide (a < b)) :=
    WordCmp.cmpi_slt_ofNat (w := 32) ha hb
  unfold IntOp.minsi
  by_cases e : a < b
  · cases h' : (BitVec.ofNat 32 a).slt (BitVec.ofNat 32 b)
    · rw [h', decide_eq_true e] at hs
      exact absurd hs (by decide)
    · rfl
  · rw [show a = b by omega]; split <;> rfl

end Cert.Attn
end
-- ==== Proof.Spec.lean ====
module

public import proofs.«01_k».proof.Proof.TopK

/-!
The function both programs compute

The attention layer in plain sums over the extended reals: four linear maps of the hidden states, the eight tokens whose gate value is
greatest, and for every token and head the softmax average over those eight and the token's window, followed by the output map.
-/

@[expose] public section

set_option maxRecDepth 16384

noncomputable section

namespace Cert.Attn

open Idealize.ShloMosaic

/-- Entry `i` of a vector. -/
abbrev rd1 {n : Nat} (x : FVec Ideal ⟨1, ![n]⟩ .f32) (i : Fin n) : EReal := x (ix1 i)
/-- Entry `(i, j)` of a matrix. -/
abbrev rd2 {a b : Nat} (x : FVec Ideal ⟨2, ![a, b]⟩ .f32) (i : Fin a) (j : Fin b) : EReal := x (ix2 i j)
/-- Entry `(i, j, k)` of a rank three array. -/
abbrev rd3 {a b c : Nat} (x : FVec Ideal ⟨3, ![a, b, c]⟩ .f32) (i : Fin a) (j : Fin b) (k : Fin c) : EReal := x (ix3 i j k)

/-- The linear map of the hidden states `x` by the rows of `w` with bias `b`: entry `(t, o)` is `Σ k, x t k * w o k + b o`. -/
def linear {n : Nat} (x : FVec Ideal ⟨3, ![1, 2048, 768]⟩ .f32) (w : FVec Ideal ⟨2, ![n, 768]⟩ .f32) (b : FVec Ideal ⟨1, ![n]⟩ .f32)
    (t : Fin 2048) (o : Fin n) : EReal := ∑ k : Fin 768, rd3 x 0 t k * rd2 w o k + rd1 b o

/-- One eighth, the scale of the queries (`64 ^ (-1/2)`), as the programs spell it. -/
abbrev eighth : EReal := (Ideal.ofBits .f32 0x3E000000#32 : EReal)

/-- The scaled queries. -/
def queries (x : FVec Ideal ⟨3, ![1, 2048, 768]⟩ .f32) (w : FVec Ideal ⟨2, ![768, 768]⟩ .f32) (b : FVec Ideal ⟨1, ![768]⟩ .f32)
    (t : Fin 2048) (o : Fin 768) : EReal := linear x w b t o * eighth

/-- The eight tokens of greatest gate value, the greatest first and equal values in token order. -/
def globals (x : FVec Ideal ⟨3, ![1, 2048, 768]⟩ .f32) (w : FVec Ideal ⟨2, ![1, 768]⟩ .f32) (b : FVec Ideal ⟨1, ![1]⟩ .f32) : Fin 8 → Fin 2048 :=
  picks fun t => linear x w b t 0

/-- Entry `(t, o)` of the layer's result. -/
def layer (x : FVec Ideal ⟨3, ![1, 2048, 768]⟩ .f32) (wq : FVec Ideal ⟨2, ![768, 768]⟩ .f32) (bq : FVec Ideal ⟨1, ![768]⟩ .f32)
    (wk : FVec Ideal ⟨2, ![768, 768]⟩ .f32) (bk : FVec Ideal ⟨1, ![768]⟩ .f32) (wv : FVec Ideal ⟨2, ![768, 768]⟩ .f32) (bv : FVec Ideal ⟨1, ![768]⟩ .f32)
    (wo : FVec Ideal ⟨2, ![768, 768]⟩ .f32) (bo : FVec Ideal ⟨1, ![768]⟩ .f32) (wg : FVec Ideal ⟨2, ![1, 768]⟩ .f32) (bg : FVec Ideal ⟨1, ![1]⟩ .f32)
    (t : Fin 2048) (o : Fin 768) : EReal :=
  ∑ c : Fin 768, attend (queries x wq bq) (linear x wk bk) (linear x wv bv) (globals x wg bg) ⟨c.val / 64, by omega⟩ t ⟨c.val % 64, by omega⟩ * rd2 wo o c
    + rd1 bo o

/-- Every entry of a rank-one array is a real number. -/
def Real1 {n : Nat} (x : FVec Ideal ⟨1, ![n]⟩ .f32) : Prop := ∀ i, IsReal (rd1 x i)
/-- Every entry of a rank-two array is a real number. -/
def Real2 {a b : Nat} (x : FVec Ideal ⟨2, ![a, b]⟩ .f32) : Prop := ∀ i j, IsReal (rd2 x i j)
/-- Every entry of a rank-three array is a real number. -/
def Real3 {a b c : Nat} (x : FVec Ideal ⟨3, ![a, b, c]⟩ .f32) : Prop := ∀ i j k, IsReal (rd3 x i j k)

/-- A linear map of real hidden states by a real matrix and bias is real. -/
theorem linear_real {n : Nat} {x : FVec Ideal ⟨3, ![1, 2048, 768]⟩ .f32} {w : FVec Ideal ⟨2, ![n, 768]⟩ .f32} {b : FVec Ideal ⟨1, ![n]⟩ .f32}
    (hx : Real3 x) (hw : Real2 w) (hb : Real1 b) (t : Fin 2048) (o : Fin n) : IsReal (linear x w b t o) :=
  (IsReal.sum _ _ fun k _ => (hx 0 t k).mul (hw o k)).add (hb o)

/-- The queries' scale is the real number one eighth. -/
theorem eighth_eq : eighth = ((1 / 8 : ℝ) : EReal) := by
  show Ideal.ofBits .f32 0x3E000000#32 = _
  simp [Ideal.ofBits, Ideal.ieee, -EReal.coe_mul]; norm_num

/-- Scaling the weights and the bias of a linear map by one eighth scales its value. -/
theorem scaled_sum (f g : Fin 768 → EReal) (b : EReal) : ∑ k, f k * (g k * eighth) + b * eighth = (∑ k, f k * g k + b) * eighth := by
  rw [eighth_eq, EReal.right_distrib_of_nonneg_of_ne_top (by exact_mod_cast (by norm_num : (0 : ℝ) ≤ 1 / 8)) (EReal.coe_ne_top _),
    sum_mul_of_nonneg _ _ _ (by norm_num)]
  simp only [mul_assoc]

/-- Real queries. -/
theorem queries_real {x : FVec Ideal ⟨3, ![1, 2048, 768]⟩ .f32} {w : FVec Ideal ⟨2, ![768, 768]⟩ .f32} {b : FVec Ideal ⟨1, ![768]⟩ .f32}
    (hx : Real3 x) (hw : Real2 w) (hb : Real1 b) (t : Fin 2048) (o : Fin 768) : IsReal (queries x w b t o) :=
  (linear_real hx hw hb t o).mul ⟨1 / 8, eighth_eq⟩

end Cert.Attn

end
-- ==== Proof.Host.lean ====
module

public import proofs.«01_k».proof.Proof.Gen.KernelIdeal.Frame
public import Idealize.ShloMosaic.Lib.Pipeline.ValueKit
public import Idealize.ShloMosaic.PureOps.Ideal
public import Idealize.ShloMosaic.Lib.Routing.Ops
public import Idealize.ShloMosaic.Lib.ReduceAll
public import proofs.«01_k».proof.Proof.Spec

/-!
The kernel program's operations between its regions, at an index: the joined weights and biases, the gate's values as a table, and the picked rows of
keys and values.
-/

@[expose] public section

set_option maxRecDepth 16384

noncomputable section

namespace Cert.KernelIdeal.Host

open Idealize.ShloMosaic Idealize.ShloMosaic.TcCoe Idealize.SL.Sem
open Cert.KernelIdeal Cert.KernelIdeal.Gen Cert.Attn

variable (U : Valuation τ sig (Elt Ideal))

/-- The hidden states as a matrix: row `t`, column `k` of the only batch. -/
theorem v0_at (t : Fin 2048) (k : Fin 768) : (StableHlo.after hostOps0 U (Proc.devRef .tc main_v0) : FVec Ideal S2048x768 .f32) (ix2 t k)
    = (U (Proc.devRef .tc main_arg0) : FVec Ideal S1x2048x768 .f32) (ix3 0 t k) := by
  after_results
  pointwise

/-- The query weights, transposed and scaled by one eighth. -/
theorem v3_at (k d : Fin 768) : (StableHlo.after hostOps0 U (Proc.devRef .tc main_v3) : FVec Ideal S768x768 .f32) (ix2 k d)
    = rd2 (U (Proc.devRef .tc main_arg2)) d k * eighth := by
  after_results
  pointwise

/-- The first column of the padded gate weights is the gate weights. -/
theorem v7_at (k : Fin 768) : (StableHlo.after hostOps0_1 U (Proc.devRef .tc main_v7) : FVec Ideal S768x128 .f32) (ix2 k 0)
    = (U (Proc.devRef .tc main_v6) : FVec Ideal S768x1 .f32) (ix2 k 0) := by
  after_results
  show pad S768x128 ![0, 0] ![0, 127] ![0, 0] (U (Proc.devRef .tc main_v6) : FVec Ideal S768x1 .f32)
    (sitofp .f32 (U (Proc.devRef .tc main_c) : IVec S_ 32) : FVec Ideal S_ .f32) pads_S768x1_S768x128_000_01270 h_S_ (ix2 k 0) = _
  pointwise
  rw [dif_pos fun a => ?_]
  match a with
  | ⟨0, _⟩ => exact ⟨Nat.zero_le _, Nat.mod_one _, by show (k.val - 0) / 1 < 768; omega⟩
  | ⟨1, _⟩ => exact ⟨Nat.zero_le _, Nat.mod_one _, by show (0 - 0) / 1 < 1; omega⟩
/-- Columns 0 to 767 of the joined weights are the query weights. -/
theorem v8_at0 (k d : Fin 768) : (StableHlo.after hostOps0_2 U (Proc.devRef .tc main_v8) : FVec Ideal S768x2432 .f32) (ix2 k ⟨0 + d.val, by omega⟩)
    = (U (Proc.devRef .tc main_v3) : FVec Ideal S768x768 .f32) (ix2 k d) := by
  after_results
  pointwise

/-- Columns 768 to 1535 of the joined weights are the key weights. -/
theorem v8_at1 (k d : Fin 768) : (StableHlo.after hostOps0_2 U (Proc.devRef .tc main_v8) : FVec Ideal S768x2432 .f32) (ix2 k ⟨768 + d.val, by omega⟩)
    = (U (Proc.devRef .tc main_v4) : FVec Ideal S768x768 .f32) (ix2 k d) := by
  after_results
  pointwise

/-- The gate values, laid out in sixteen rows. -/
theorem v17_at (p : Fin 16) (q : Fin 128) : (StableHlo.after hostOps1 U (Proc.devRef .tc main_v17) : FVec Ideal S16x128 .f32) (ix2 p q)
    = (U (Proc.devRef .tc main_v14_3) : FVec Ideal S2048x128 .f32) (ix2 ⟨p.val * 128 + q.val, by omega⟩ 0) := by
  after_results
  pointwise

/-- The output weights, transposed. -/
theorem v21_at (k d : Fin 768) : (StableHlo.after hostOps2_2 U (Proc.devRef .tc main_v21) : FVec Ideal S768x768 .f32) (ix2 k d)
    = (U (Proc.devRef .tc main_arg8) : FVec Ideal S768x768 .f32) (ix2 d k) := by
  after_results
  pointwise

/-- The output bias as a row. -/
theorem v22_at (d : Fin 768) : (StableHlo.after hostOps2_2 U (Proc.devRef .tc main_v22) : FVec Ideal S1x768 .f32) (ix2 0 d)
    = (U (Proc.devRef .tc main_arg9) : FVec Ideal S768 .f32) (ix1 d) := by
  after_results
  pointwise

/-- The result with its batch axis. -/
theorem v24_at (t : Fin 2048) (d : Fin 768) : (StableHlo.after hostOps3 U (Proc.devRef .tc main_v24) : FVec Ideal S1x2048x768 .f32) (ix3 0 t d)
    = (U (Proc.devRef .tc main_v23) : FVec Ideal S2048x768 .f32) (ix2 t d) := by
  after_results
  pointwise

/-- Columns 1536 to 2303 of the joined weights are the value weights. -/
theorem v8_at2 (k d : Fin 768) : (StableHlo.after hostOps0_2 U (Proc.devRef .tc main_v8) : FVec Ideal S768x2432 .f32) (ix2 k ⟨1536 + d.val, by omega⟩)
    = (U (Proc.devRef .tc main_v5) : FVec Ideal S768x768 .f32) (ix2 k d) := by
  after_results
  pointwise
  rw [dif_neg (by omega), dif_neg (by omega), dif_pos (by omega)]
  exact congrArg (fun z => (U (Proc.devRef .tc main_v5) : FVec Ideal S768x768 .f32) (ix2 k z)) (Fin.ext (by show 1536 + d.val - 768 - 768 = d.val; omega))

/-- Column 2304 of the joined weights is the gate weights. -/
theorem v8_at3 (k : Fin 768) : (StableHlo.after hostOps0_2 U (Proc.devRef .tc main_v8) : FVec Ideal S768x2432 .f32) (ix2 k ⟨2304 + (0 : Fin 1).val, by omega⟩)
    = (U (Proc.devRef .tc main_v7) : FVec Ideal S768x128 .f32) (ix2 k 0) := by
  after_results
  pointwise

/-- The key weights, transposed. -/
theorem v4_at (k d : Fin 768) : (StableHlo.after hostOps0 U (Proc.devRef .tc main_v4) : FVec Ideal S768x768 .f32) (ix2 k d)
    = (U (Proc.devRef .tc main_arg4) : FVec Ideal S768x768 .f32) (ix2 d k) := by
  after_results
  pointwise

/-- The value weights, transposed. -/
theorem v5_at (k d : Fin 768) : (StableHlo.after hostOps0 U (Proc.devRef .tc main_v5) : FVec Ideal S768x768 .f32) (ix2 k d)
    = (U (Proc.devRef .tc main_arg6) : FVec Ideal S768x768 .f32) (ix2 d k) := by
  after_results
  pointwise

/-- The gate weights, transposed. -/
theorem v6_at (k : Fin 768) : (StableHlo.after hostOps0 U (Proc.devRef .tc main_v6) : FVec Ideal S768x1 .f32) (ix2 k 0)
    = (U (Proc.devRef .tc main_arg10) : FVec Ideal S1x768 .f32) (ix2 0 k) := by
  after_results
  pointwise

/-- The query bias scaled by one eighth. -/
theorem v10_at (d : Fin 768) : (StableHlo.after hostOps0_2 U (Proc.devRef .tc main_v10) : FVec Ideal S768 .f32) (ix1 d)
    = rd1 (U (Proc.devRef .tc main_arg3)) d * eighth := by
  after_results
  pointwise

/-- The first entry of the padded gate bias is the gate bias. -/
theorem v11_at : (StableHlo.after hostOps0_3 U (Proc.devRef .tc main_v11) : FVec Ideal S128 .f32) (ix1 0)
    = (U (Proc.devRef .tc main_arg11) : FVec Ideal S1 .f32) (ix1 0) := by
  after_results
  show pad S128 ![0] ![127] ![0] (U (Proc.devRef .tc main_arg11) : FVec Ideal S1 .f32)
    (sitofp .f32 (U (Proc.devRef .tc main_c_1) : IVec S_ 32) : FVec Ideal S_ .f32) pads_S1_S128_01270 h_S_ (ix1 0) = _
  pointwise
  rw [dif_pos fun a => ?_]
  match a with
  | ⟨0, _⟩ => exact Nat.one_pos

/-- Entries 0 to 767 of the joined bias are the query bias. -/
theorem v13_at0 (d : Fin 768) : (StableHlo.after hostOps0_4 U (Proc.devRef .tc main_v13) : FVec Ideal S1x2432 .f32) (ix2 0 ⟨0 + d.val, by omega⟩)
    = (U (Proc.devRef .tc main_v10) : FVec Ideal S768 .f32) (ix1 d) := by
  after_results
  pointwise

/-- Entries 768 to 1535 of the joined bias are the key bias. -/
theorem v13_at1 (d : Fin 768) : (StableHlo.after hostOps0_4 U (Proc.devRef .tc main_v13) : FVec Ideal S1x2432 .f32) (ix2 0 ⟨768 + d.val, by omega⟩)
    = (U (Proc.devRef .tc main_arg5) : FVec Ideal S768 .f32) (ix1 d) := by
  after_results
  pointwise

/-- Entries 1536 to 2303 of the joined bias are the value bias. -/
theorem v13_at2 (d : Fin 768) : (StableHlo.after hostOps0_4 U (Proc.devRef .tc main_v13) : FVec Ideal S1x2432 .f32) (ix2 0 ⟨1536 + d.val, by omega⟩)
    = (U (Proc.devRef .tc main_arg7) : FVec Ideal S768 .f32) (ix1 d) := by
  after_results
  pointwise
  rw [dif_neg (by omega), dif_neg (by omega), dif_pos (by omega)]
  exact congrArg (fun z => (U (Proc.devRef .tc main_arg7) : FVec Ideal S768 .f32) (ix1 z)) (Fin.ext (by show 1536 + d.val - 768 - 768 = d.val; omega))

/-- Entry 2304 of the joined bias is the gate bias. -/
theorem v13_at3 : (StableHlo.after hostOps0_4 U (Proc.devRef .tc main_v13) : FVec Ideal S1x2432 .f32) (ix2 0 ⟨2304 + (0 : Fin 1).val, by omega⟩)
    = (U (Proc.devRef .tc main_v11) : FVec Ideal S128 .f32) (ix1 0) := by
  after_results
  pointwise

/-- The row numbers `w` as a column, a negative one counted from the end. -/
def column (w : IVec S8 32) : IVec S8x1 32 :=
  broadcastInDim S8x1 ![0] bcast_S8_S8x1_0 (select (cmpi .slt w (broadcastInDim S8 ![] bcast_S_S8 (constantI S_ 32 0#32)))
    (addi w (broadcastInDim S8 ![] bcast_S_S8 (constantI S_ 32 2048#32))) w)

/-- Whether each row number of a column is one of the array's rows. -/
def inRange (i : IVec S8x1 32) : IVec S8x1 1 :=
  andi (cmpi .sge i (broadcastInDim S8x1 ![] bcast_S_S8x1 (constantI S_ 32 0#32)))
    (cmpi .sle i (broadcastInDim S8x1 ![0, 1] bcast_S1x1_S8x1_0_1 (broadcastInDim S1x1 ![1] bcast_S1_S1x1_1 (constantI S1 32 2047#32))))

/-- The rows of `x` numbered by `w`, and a fixed value in the rows whose number is none of the array's. -/
def takeRows (x : FVec Ideal S2048x768 .f32) (w : IVec S8 32) : FVec Ideal S8x768 .f32 :=
  select (broadcastInDim S8x768 ![0] bcast_S8_S8x768_0 (Host.reduce IntOp.andi (inRange (column w)) (constantI S_ 1 1#1) reducesTo_S8x1_S8_d1 h_S_))
    (Host.gather gather_S2048x768_S8x1_S8x768_1_0_n_n_0_1_1768 x (column w))
    (broadcastInDim S8x768 ![] bcast_S_S8x768 (constant S_ .f32 2143289344#32))

/-- The keys of the chosen tokens, taken row by row. -/
theorem v19_eq : StableHlo.after hostOps2 U (Proc.devRef .tc main_v19) = takeRows (U (Proc.devRef .tc main_v14_1)) (U (Proc.devRef .tc main_v18)) := by
  after_results
  rfl

/-- The values of the chosen tokens, taken row by row. -/
theorem v20_eq : StableHlo.after hostOps2_1 U (Proc.devRef .tc main_v20) = takeRows (U (Proc.devRef .tc main_v14_2)) (U (Proc.devRef .tc main_v18)) := by
  after_results
  rfl

/-- A row number in range stands unchanged in the column. -/
theorem column_at (w : IVec S8 32) (m : Fin 8) (g : Fin 2048) (h : w (ix1 m) = BitVec.ofNat 32 g.val) : column w (ix2 m 0) = BitVec.ofNat 32 g.val := by
  have hg := g.isLt
  unfold column
  pointwise [h]
  rw [show (0#32) = BitVec.ofNat 32 0 from rfl]
  simp (disch := omega) only [hlo_ix]
  rw [if_neg (by omega)]

/-- The row number of a token is in range. -/
theorem inRange_at (i : IVec S8x1 32) (m : Fin 8) (g : Fin 2048) (h : i (ix2 m 0) = BitVec.ofNat 32 g.val) : inRange i (ix2 m 0) = 1#1 := by
  have hg := g.isLt
  unfold inRange
  pointwise [h]
  rw [show (0#32) = BitVec.ofNat 32 0 from rfl, show (2047#32) = BitVec.ofNat 32 2047 from rfl]
  simp (disch := omega) only [hlo_ix]
  omega

/-- The library's two spellings of a matrix index are one. -/
theorem ix2_same {a b : Nat} (i : Fin a) (j : Fin b) : ValueIdx.ix2 i j = ix2 i j := by
  funext k
  match k with
  | ⟨0, _⟩ => rfl
  | ⟨1, _⟩ => rfl

/-- Taking rows of numbers in range reads those rows. -/
theorem takeRows_at (x : FVec Ideal S2048x768 .f32) (w : IVec S8 32) (g : Fin 8 → Fin 2048) (h : ∀ m, w (ix1 m) = BitVec.ofNat 32 (g m).val)
    (m : Fin 8) (d : Fin 768) : takeRows x w (ix2 m d) = x (ix2 (g m) d) := by
  have hc : ∀ m, column w (ix2 m 0) = BitVec.ofNat 32 (g m).val := fun m => column_at w m (g m) (h m)
  have hf : Finset.fold IntOp.andi (1#1) (fun k : Fin 1 => inRange (column w) (ix2 m k)) Finset.univ = 1#1 := by
    rw [Finset.univ_unique, Finset.fold_singleton]
    show IntOp.andi (inRange (column w) (ix2 m 0)) 1#1 = 1#1
    rw [inRange_at _ m (g m) (hc m)]
    rfl
  unfold takeRows
  pointwise
  have e := Routing.gather_row gather_S2048x768_S8x1_S8x768_1_0_n_n_0_1_1768 rfl rfl rfl rfl rfl x (column w) m d (g m)
    ((congrArg (column w) (ix2_same m 0)).trans (hc m)) (by norm_num)
  rw [hf, ← ix2_same m d, e]
  exact congrArg x (ix2_same (g m) d)

end Cert.KernelIdeal.Host
end
-- ==== Proof.Proj.lean ====
module

public import proofs.«01_k».proof.Proof.Gen.KernelIdeal.Frame
public import Idealize.ShloMosaic.Lib.Pipeline.ValueKit
public import Idealize.ShloMosaic.PureOps.Ideal

/-!
The projection region of the kernel: its output arrays hold the queries, keys, values and gate values, entry by entry.
-/

@[expose] public section

set_option maxRecDepth 16384

noncomputable section

namespace Cert.KernelIdeal.Proj

open Idealize.ShloMosaic Idealize.ShloMosaic.TcCoe Idealize.SL.Sem
open Idealize.ShloMosaic.Pipeline (Dat)
open Cert.KernelIdeal Cert.KernelIdeal.Gen

/-- A row of the input against a column of the joined weights, plus the joined bias. -/
def lin (x : FVec Ideal S2048x768 .f32) (w : FVec Ideal S768x2432 .f32) (b : FVec Ideal S1x2432 .f32) (t : Fin 2048) (d : Fin 2432) : EReal :=
  ∑ k : Fin 768, x (ix2 t k) * w (ix2 k d) + b (ix2 0 d)

variable (V : (c : Dev nD) → (b : Ref sig .tc) → Buf (Elt Ideal) ((c : Thread nD τ).loc b)) (c : Dev nD)

/-- Which block of each operand a grid point takes: its own rows of the input and of the results, all of the weights and biases. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result: the columns of the queries. -/
theorem final_q : (dat0 V c).arrAt 3 cfg0.N = fun j : S2048x768.Idx =>
    lin (V c main_v0) (V c main_v8) (V c main_v13) (j 0) ⟨0 + (j 1).val, by have : (j 1).val < 768 := (j 1).isLt; omega⟩ := by
  refine (dat0 V c).arrAt_eq_of_covers 3 _ (by decide +kernel) fun t _ y => ?_
  blk_simp
  rw [after0_3]
  frame_out
  idx_vars y
  pointwise [k0_pay2, k0_pay1, lin]
  blk_point [iblk0, idx t]

/-- The second result: the columns of the keys. -/
theorem final_k : (dat0 V c).arrAt 4 cfg0.N = fun j : S2048x768.Idx =>
    lin (V c main_v0) (V c main_v8) (V c main_v13) (j 0) ⟨768 + (j 1).val, by have : (j 1).val < 768 := (j 1).isLt; omega⟩ := by
  refine (dat0 V c).arrAt_eq_of_covers 4 _ (by decide +kernel) fun t _ y => ?_
  blk_simp
  rw [after0_4]
  frame_out
  idx_vars y
  pointwise [k0_pay3, k0_pay1, lin]
  blk_point [iblk0, idx t]

/-- The third result: the columns of the values. -/
theorem final_v : (dat0 V c).arrAt 5 cfg0.N = fun j : S2048x768.Idx =>
    lin (V c main_v0) (V c main_v8) (V c main_v13) (j 0) ⟨1536 + (j 1).val, by have : (j 1).val < 768 := (j 1).isLt; omega⟩ := by
  refine (dat0 V c).arrAt_eq_of_covers 5 _ (by decide +kernel) fun t _ y => ?_
  blk_simp
  rw [after0_5]
  frame_out
  idx_vars y
  pointwise [k0_pay4, k0_pay1, lin]
  blk_point [iblk0, idx t]

/-- The fourth result: the columns of the gate. -/
theorem final_g : (dat0 V c).arrAt 6 cfg0.N = fun j : S2048x128.Idx =>
    lin (V c main_v0) (V c main_v8) (V c main_v13) (j 0) ⟨2304 + (j 1).val, by have : (j 1).val < 128 := (j 1).isLt; omega⟩ := by
  refine (dat0 V c).arrAt_eq_of_covers 6 _ (by decide +kernel) fun t _ y => ?_
  blk_simp
  rw [after0_6]
  frame_out
  idx_vars y
  pointwise [k0_pay5, k0_pay1, lin]
  blk_point [iblk0, idx t]

end Cert.KernelIdeal.Proj
end
-- ==== Proof.Pick.lean ====
module

public import proofs.«01_k».proof.Proof.Gen.KernelIdeal.Frame
public import proofs.«01_k».proof.Proof.TopK
public import Idealize.ShloMosaic.Lib.Pipeline.ValueKit
public import Idealize.ShloMosaic.PureOps.Ideal

/-!
The region that picks the eight tokens of greatest gate value: its output array holds their numbers.
-/

@[expose] public section

set_option maxRecDepth 16384

noncomputable section

namespace Cert.KernelIdeal.Pick

open Idealize.ShloMosaic Idealize.ShloMosaic.TcCoe Idealize.SL.Sem
open Idealize.ShloMosaic.Pipeline (Dat)
open Cert.KernelIdeal Cert.KernelIdeal.Gen Cert.Attn

/-- The greatest value of a round. -/
def greatest (v : FVec Ideal S16x128 .f32) : FVec Ideal S1x1x1 .f32 :=
  shapeCast S1x1x1 (multiReduction .maximumf [1, 2] S1 (shapeCast S1x16x128 v shapeCasts_S16x128_S1x16x128) 0xFF800000#32
    reduces_S1x16x128_S1 (.inl rfl) rfl) shapeCasts_S1_S1x1x1

/-- The least position where the greatest value of a round stands. -/
def pick (v : FVec Ideal S16x128 .f32) : IVec S1x1x1 32 :=
  shapeCast S1x1x1 (multiReductionI .minsi [1, 2] S1 (shapeCast S1x16x128
    (select (cmpf .oeq v (broadcast S16x128 (extractAt ![0, 0, 0] (greatest v) inpos_S1x1x1_p0_0_0))) k1_pay3 (broadcast S16x128 2048#32))
      shapeCasts_S16x128_S1x16x128) 2147483647#32 reduces_S1x16x128_S1 rfl) shapeCasts_S1_S1x1x1

/-- A round's pick, as a word. -/
def word (v : FVec Ideal S16x128 .f32) : BitVec 32 := extractAt ![0, 0, 0] (pick v) inpos_S1x1x1_p0_0_0

/-- The values after a round: the picked position set to minus infinity. -/
def next (v : FVec Ideal S16x128 .f32) : FVec Ideal S16x128 .f32 :=
  select (cmpi .eq k1_pay3 (broadcast S16x128 (word v))) (broadcast S16x128 (Scalar.ofBits (F := Ideal) .f32 0xFF800000#32)) v

/-- The values entering round `n`. -/
def vals (v : FVec Ideal S16x128 .f32) : ℕ → FVec Ideal S16x128 .f32
  | 0 => v
  | n + 1 => next (vals v n)

/-- A position's row and column in the kernel's 16 by 128 arrangement. -/
def flat (v : FVec Ideal S16x128 .f32) (p : Fin 2048) : EReal := v (ix2 ⟨p.val / 128, by omega⟩ ⟨p.val % 128, by omega⟩)

/-- The value at row `r`, column `c` is the value at position `128 r + c`. -/
theorem flat_at (v : FVec Ideal S16x128 .f32) (r : Fin 16) (c : Fin 128) : v (ix2 r c) = flat v ⟨r.val * 128 + c.val, by omega⟩ := by
  unfold flat
  exact congrArg₂ (fun a b => v (ix2 a b)) (Fin.ext (by dsimp only; omega)) (Fin.ext (by dsimp only; omega))

/-- The word of a position, from its row and column. -/
theorem pos_word (r c : ℕ) :
    IntOp.addi (IntOp.muli (BitVec.ofNat 32 r) 128#32) (BitVec.ofNat 32 c) = BitVec.ofNat 32 (r * 128 + c) :=
  (congrArg (IntOp.addi · _) (WordCmp.muli_ofNat r 128)).trans (WordCmp.addi_ofNat _ _)

/-- A round's pick is the first position holding the greatest value. -/
theorem word_eq (v : FVec Ideal S16x128 .f32) : word v = BitVec.ofNat 32 (best (flat v)).val := by
  have hbot : (Ideal.ofBits .f32 4286578688#32 : Ideal .f32) = (⊥ : EReal) := rfl
  have hp := (best (flat v)).isLt
  have hat : ∃ x ∈ (Finset.univ : Finset (Fin 16 × Fin 128)), x.1.val * 128 + x.2.val = (best (flat v)).val :=
    ⟨(⟨(best (flat v)).val / 128, by omega⟩, ⟨(best (flat v)).val % 128, by omega⟩), Finset.mem_univ _, by dsimp only; omega⟩
  have hmax : Finset.fold max (⊥ : EReal) (fun x : Fin 16 × Fin 128 => (v (ix2 x.1 x.2) : EReal)) Finset.univ = flat v (best (flat v)) := by
    refine fold_absorb max _ _ _ _ (max_self _) (max_eq_left bot_le) (fun x _ => max_eq_left ?_) ?_
    · rw [flat_at v]; exact le_best _ _
    · obtain ⟨x, hx, e⟩ := hat
      exact ⟨x, hx, (flat_at v x.1 x.2).trans (congrArg (flat v) (Fin.ext e))⟩
  pointwise [word, pick, greatest, k1_pay3]
  rw [hbot]
  refine fold_absorb IntOp.minsi _ _ _ _ (minsi_ofNat _ _ (by omega) (by omega) le_rfl) (minsi_ofNat _ 2147483647 (by omega) (by omega) (by omega)) ?_ ?_
  · intro x _
    rw [pos_word]
    split
    · rename_i h
      refine minsi_ofNat _ _ (by omega) (by omega) ?_
      by_contra hlt
      have h2 := lt_best (flat v) ⟨x.1.val * 128 + x.2.val, by omega⟩ (by show x.1.val * 128 + x.2.val < _; omega)
      rw [← flat_at v, h, hmax] at h2
      exact lt_irrefl _ h2
    · exact minsi_ofNat _ 2048 (by omega) (by omega) (by omega)
  · obtain ⟨x, hx, e⟩ := hat
    refine ⟨x, hx, ?_⟩
    rw [pos_word, if_pos (by rw [hmax, flat_at v]; exact congrArg (flat v) (Fin.ext e)), e]

/-- The next round's values: the pick struck out. -/
theorem flat_next (v : FVec Ideal S16x128 .f32) : flat (next v) = Function.update (flat v) (best (flat v)) ⊥ := by
  have hbot : (Ideal.ofBits .f32 4286578688#32 : Ideal .f32) = (⊥ : EReal) := rfl
  have hp := (best (flat v)).isLt
  funext p
  refine Eq.trans (b := next v (ix2 ⟨p.val / 128, by omega⟩ ⟨p.val % 128, by omega⟩)) rfl ?_
  pointwise [next, k1_pay3]
  rw [pos_word, word_eq, hbot]
  simp (disch := omega) only [hlo_ix]
  by_cases h : p = best (flat v)
  · rw [← h, if_pos (by omega)]
    exact (Function.update_self (β := fun _ => EReal) p ⊥ (flat v)).symm
  · rw [if_neg (fun e => h (Fin.ext (by omega)))]
    exact (Function.update_of_ne (β := fun _ => EReal) h ⊥ (flat v)).symm

/-- The values entering round `n`, position by position. -/
theorem flat_vals (v : FVec Ideal S16x128 .f32) (n : ℕ) : flat (vals v n) = stage (flat v) n := by
  induction n with
  | zero => rfl
  | succ n ih => exact (flat_next (vals v n)).trans (by rw [ih]; rfl)

/-- The values a load of the whole operand gives. -/
theorem load_eq (arg0 : Memref sig .tc .vmem S16x128 .f32) (harg0 : arg0.IsWhole) (x0 : Vec Ideal S16x128 .f32) (inb) :
    k1_pay2 (F := Ideal) (View.readAt (Elt Ideal) arg0.view (Rect.unit (s := S16x128) ![0, 0] S16x128.size inb).toLoadRect (harg0.unread x0)) = x0 := by
  funext j
  rw [View.readAt_eq_ld, harg0.read_unread]
  idx_vars j
  pointwise [k1_pay2]

/-- The payloads of the first two rounds, each a round's pick, values or greatest value. -/
theorem payloadsA (v : Vec Ideal S16x128 .f32) :
    k1_pay4 v = pick (k1_pay2 v) ∧ k1_pay5 v = next (k1_pay2 v) ∧ k1_pay6 v = pick (k1_pay5 v) ∧ k1_pay7 v = next (k1_pay5 v) ∧ k1_pay8 v = greatest (k1_pay7 v) :=
  ⟨rfl, rfl, rfl, rfl, rfl⟩

/-- The payloads of the middle rounds. -/
theorem payloadsB (w : FVec Ideal S16x128 .f32) : let m := greatest w
    k1_pay9 k1_pay3 w m = pick w ∧ k1_pay10 k1_pay3 w m = next w ∧ k1_pay11 k1_pay3 w m = pick (k1_pay10 k1_pay3 w m)
      ∧ k1_pay12 k1_pay3 w m = next (k1_pay10 k1_pay3 w m) ∧ k1_pay13 k1_pay3 w m = pick (k1_pay12 k1_pay3 w m) :=
  ⟨rfl, rfl, rfl, rfl, rfl⟩

/-- The payloads of the last rounds. -/
theorem payloadsC (w : FVec Ideal S16x128 .f32) : let u := extractAt ![0, 0, 0] (pick w) inpos_S1x1x1_p0_0_0
    k1_pay14 k1_pay3 w u = next w ∧ k1_pay15 k1_pay3 w u = pick (k1_pay14 k1_pay3 w u)
    ∧ k1_pay16 k1_pay3 w u = next (k1_pay14 k1_pay3 w u) ∧ k1_pay17 k1_pay3 w u = pick (k1_pay16 k1_pay3 w u)
    ∧ k1_pay1 k1_pay3 (k1_pay18 k1_pay3 w u) k1_pay19 = pick (next (k1_pay16 k1_pay3 w u)) :=
  ⟨rfl, rfl, rfl, rfl, rfl⟩

/-- What the picking kernel leaves: place `k` holds round `k`'s pick. -/
theorem out_eq (c : Dev nD) (arg0 : Memref sig .tc .vmem S16x128 .f32) (harg0 : arg0.IsWhole) (arg1 : Memref sig .tc .smem S8 .i32) (harg1 : arg1.IsWhole)
    (x0 : Vec Ideal S16x128 .f32) : out1_A_1 c arg0 harg0 arg1 harg1 x0 = fun j : S8.Idx => word (vals x0 (j 0).val) := by
  funext j
  unfold out1_A_1
  rw [View.read_writes_eq_canon _ _ _ (cover1_A_1 c arg0 harg0 arg1 harg1 x0)]
  unfold kernelRun1_A
  dsimp only
  refine (View.canon_apply_of_pieces (fun j : S8.Idx => word (vals x0 (j 0).val)) _ ?_ _ ?_).trans rfl
  · simp only [List.forall_mem_cons, List.not_mem_nil, false_imp_iff, implies_true, and_true]
    have hat : ∀ (k : ℕ) (inb) (x : (Rect.unit (s := S8) ![k] ![1] inb).shape.Idx), ((Rect.unit (s := S8) ![k] ![1] inb).emb x 0).val = k := fun k inb x => by
      have h : (x 0).val < 1 := (x 0).isLt
      show k + 1 * (x 0).val = k
      omega
    have hv := load_eq arg0 harg0 x0 inb_S16x128_S16x128_0_0
    simp only [hat]
    unfold kernelRun1_A.sl.r_10 kernelRun1_A.sl.v120 kernelRun1_A.sl.v103 kernelRun1_A.sl.v86 kernelRun1_A.sl.v69 kernelRun1_A.sl.v52 kernelRun1_A.sl.v35 kernelRun1_A.sl.v18 kernelRun1_A.sl.r_7
    unfold kernelRun1_A.sl.r_2 kernelRun1_A.sl.r_3
    generalize View.readAt (Elt Ideal) arg0.view (Rect.unit (s := S16x128) ![0, 0] S16x128.size inb_S16x128_S16x128_0_0).toLoadRect (harg0.unread x0) = u at hv ⊢
    obtain ⟨a4, a5, a6, a7, a8⟩ := payloadsA u
    rw [hv] at a4 a5
    rw [a5] at a6 a7
    rw [a7] at a8
    obtain ⟨b9, b10, b11, b12, b13⟩ := payloadsB (next (next x0))
    rw [b10] at b11 b12
    rw [b12] at b13
    obtain ⟨d14, d15, d16, d17, d18⟩ := payloadsC (next (next (next (next x0))))
    rw [d14] at d15 d16
    rw [d16] at d17 d18
    simp only [a8, a7, a6, a4, b9, b11, b12, b13, d15, d17, d18]
    exact ⟨fun _ => rfl, fun _ => rfl, fun _ => rfl, fun _ => rfl, fun _ => rfl, fun _ => rfl, fun _ => rfl, fun _ => rfl⟩
  · exact cover1_A_1 c arg0 harg0 arg1 harg1 x0 j

/-- Every grid point's blocks are the whole operands. -/
theorem idx : ∀ t : Fin cfg1.N, win1_0.index t = ![0, 0] ∧ win1_1.index t = ![0] :=
  (by decide +kernel : ∀ t : Fin grid1.N, _)

/-- What the picking region leaves: the eight picks of the gate's values, as words. -/
theorem final (V : (c : Dev nD) → (b : Ref sig .tc) → Buf (Elt Ideal) ((c : Thread nD τ).loc b)) (c : Dev nD) :
    (dat1 V c).arrAt 1 cfg1.N = fun j : S8.Idx => BitVec.ofNat 32 (picks (flat (V c main_v17)) (j 0)).val := by
  refine (dat1 V c).arrAt_eq_of_covers 1 _ (by decide +kernel) fun t _ y => ?_
  blk_simp
  rw [after1_1]
  unfold outsAt1
  have hblk : iblk1 V c 0 t = V c main_v17 := by
    funext j
    idx_vars j
    blk_point [iblk1, idx t]
  rw [out_eq, hblk]
  frame_out
  rw [word_eq, flat_vals]
  idx_vars y
  refine congrArg (fun k : Fin 8 => BitVec.ofNat 32 (picks (flat (V c main_v17)) k).val) (Fin.ext ?_)
  show y0.val = _
  blk_simp [(idx t).2]

end Cert.KernelIdeal.Pick
end
-- ==== Proof.Band.lean ====
module
public import proofs.«01_k».proof.Proof.Gen.KernelIdeal.Frame
public import proofs.«01_k».proof.Proof.Core
public import Idealize.ShloMosaic.Lib.Pipeline.ValueKit
public import Idealize.ShloMosaic.Lib.Pointwise
public import Idealize.ShloMosaic.Lib.WordCmp
public import Idealize.ShloMosaic.Lib.ValueIdx
/-!
The attention region of the kernel: for each block of 256 queries, every head's softmax over the band of 288 keys and the eight picked keys, and the
last projection. Its output array is read back entry by entry.
-/

@[expose] public section
set_option maxRecDepth 16384
noncomputable section
open Idealize.ShloMosaic Idealize.ShloMosaic.TcCoe Idealize.SL.Sem
open Idealize.ShloMosaic.Pipeline (Dat)
namespace Cert.KernelIdeal.Band
open Cert.KernelIdeal Cert.KernelIdeal.Gen Cert.Attn

/-- The first row of the band of keys that query block `n` reads. -/
def bandStart (n : Fin 8) : Nat := min 1760 (256 * n.val - 16)

/-- A band starts early enough to end within the 2048 rows. -/
theorem bandStart_le (n : Fin 8) : bandStart n ≤ 1760 := min_le_left _ _

/-- One head's attention on a query block: from the head's columns of the queries, of the band's keys
    and values, and of the global keys and values. -/
def headOut (ok : IVec S256x288 1) (q : FVec Ideal S256x64 .f32) (kb vb : FVec Ideal S288x64 .f32) (kg vg : FVec Ideal S8x64 .f32) :
    FVec Ideal S256x64 .f32 :=
  k2_pay10 ok (k2_pay5 vb) (k2_pay6 vg)
    (matmul dot_S256x64_S288x64_S256x288_1_1_0_0_n_n none q (shapeCast S288x64 kb shapeCasts_S288x64_S288x64) (constant S256x288 .f32 0x00000000#32))
    (matmul dot_S256x64_S8x64_S256x8_1_1_0_0_n_n none q (shapeCast S8x64 kg shapeCasts_S8x64_S8x64) (constant S256x8 .f32 0x00000000#32))
    k2_pay9

/-- Head `h`'s columns of a block of queries. -/
def qCol (x : Vec Ideal S256x768 .f32) (h : Fin 12) : FVec Ideal S256x64 .f32 :=
  fun j => x (ix2 (j 0) ⟨64 * h.val + (j 1).val, by have h1 : (j 1).val < 64 := (j 1).isLt; have h2 := h.isLt; omega⟩)
/-- Head `h`'s columns of the global rows. -/
def gCol (x : Vec Ideal S8x768 .f32) (h : Fin 12) : FVec Ideal S8x64 .f32 :=
  fun j => x (ix2 (j 0) ⟨64 * h.val + (j 1).val, by have h1 : (j 1).val < 64 := (j 1).isLt; have h2 := h.isLt; omega⟩)
/-- Head `h`'s columns of block `n`'s band of rows. -/
def bCol (x : Vec Ideal S2048x768 .f32) (n : Fin 8) (h : Fin 12) : FVec Ideal S288x64 .f32 :=
  fun j => x (ix2 ⟨bandStart n + (j 0).val, by have h1 : (j 0).val < 288 := (j 0).isLt; have h2 := bandStart_le n; omega⟩
    ⟨64 * h.val + (j 1).val, by have h1 : (j 1).val < 64 := (j 1).isLt; have h2 := h.isLt; omega⟩)

/-- The head a column belongs to. -/
def headOf (c : Fin 768) : Fin 12 := ⟨c.val / 64, by omega⟩
/-- A column's place inside its head. -/
def dimOf (c : Fin 768) : Fin 64 := ⟨c.val % 64, by omega⟩

/-- The whole block of attention outputs, all twelve heads side by side. -/
def acc (i : grid2.Coords) (x0 : Vec Ideal S256x768 .f32) (x1 x2 : Vec Ideal S2048x768 .f32) (x3 x4 : Vec Ideal S8x768 .f32) :
    FVec Ideal S256x768 .f32 := fun y =>
  headOut (k2_pay2 i) (qCol x0 (headOf (y 1))) (bCol x1 (i 0) (headOf (y 1))) (bCol x2 (i 0) (headOf (y 1)))
    (gCol x3 (headOf (y 1))) (gCol x4 (headOf (y 1))) (ix2 (y 0) (dimOf (y 1)))

/-- The offset at which each head reads its keys and values: the band's first row, and 64 times the head's number. -/
theorem off_eq : ∀ i : grid2.Coords,
    k2_off1 i = ![bandStart (i 0), 0] ∧ k2_off2 i = ![bandStart (i 0), 64] ∧ k2_off3 i = ![bandStart (i 0), 128]
    ∧ k2_off4 i = ![bandStart (i 0), 192] ∧ k2_off5 i = ![bandStart (i 0), 256] ∧ k2_off6 i = ![bandStart (i 0), 320]
    ∧ k2_off7 i = ![bandStart (i 0), 384] ∧ k2_off8 i = ![bandStart (i 0), 448] ∧ k2_off9 i = ![bandStart (i 0), 512]
    ∧ k2_off10 i = ![bandStart (i 0), 576] ∧ k2_off11 i = ![bandStart (i 0), 640] ∧ k2_off12 i = ![bandStart (i 0), 704] := by
  decide +kernel

/-- A stored strip of one head is that head's part of `acc`. -/
theorem strip_eq (i : grid2.Coords) (x0 : Vec Ideal S256x768 .f32) (x1 x2 : Vec Ideal S2048x768 .f32) (x3 x4 : Vec Ideal S8x768 .f32)
    (h : Fin 12) (q : FVec Ideal S256x64 .f32) (kb vb : FVec Ideal S288x64 .f32) (kg vg : FVec Ideal S8x64 .f32)
    (hq : q = qCol x0 h) (hkb : kb = bCol x1 (i 0) h) (hvb : vb = bCol x2 (i 0) h) (hkg : kg = gCol x3 h) (hvg : vg = gCol x4 h)
    (x : S256x64.Idx) (y : S256x768.Idx) (h0 : (y 0).val = (x 0).val) (h1 : (y 1).val = 64 * h.val + (x 1).val) :
    headOut (k2_pay2 i) q kb vb kg vg x = acc i x0 x1 x2 x3 x4 y := by
  subst hq hkb hvb hkg hvg
  have hx1 : (x 1).val < 64 := (x 1).isLt
  have e1 : headOf (y 1) = h := Fin.ext (by show (y 1).val / 64 = h.val; omega)
  have e2 : (ix2 (y 0) (dimOf (y 1)) : S256x64.Idx) = x := by
    rw [eq_ix2 x]
    exact congrArg₂ ix2 (Fin.ext h0) (Fin.ext (by show (y 1).val % 64 = (x 1).val; omega))
  unfold acc
  rw [e1, e2]
/-- Each head's chain of printed payloads is `headOut` on that head's slice of the queries: the kernel spells the
    twelve heads out, cutting each chain at different places. -/
theorem chains (ok : IVec S256x288 1) (q : Vec Ideal S256x768 .f32) (kb vb : Vec Ideal S288x64 .f32) (kg vg : Vec Ideal S8x64 .f32) :
    k2_pay10 ok (k2_pay5 vb) (k2_pay6 vg) (k2_pay7 q kb) (k2_pay8 q kg) k2_pay9
      = headOut ok (extractStridedSlice S256x64 ![0, 0] (k2_pay3 q) slices_S256x768_o0_0_S256x64) kb vb kg vg
    ∧ k2_pay17 (k2_pay12 vb) (k2_pay13 vg) (k2_pay14 (k2_pay3 q) kg) (k2_pay15 ok (k2_pay3 q) kb) (k2_pay16 ok (k2_pay3 q) kb)
      = headOut ok (extractStridedSlice S256x64 ![0, 64] (k2_pay3 q) slices_S256x768_o0_64_S256x64) kb vb kg vg
    ∧ k2_pay25 (k2_pay19 vb) (k2_pay20 vg) (k2_pay21 (k2_pay3 q) kg) (k2_pay22 ok (k2_pay3 q) kb) (k2_pay23 ok (k2_pay3 q) kb) (k2_pay24 (k2_pay3 q) kg)
      = headOut ok (extractStridedSlice S256x64 ![0, 128] (k2_pay3 q) slices_S256x768_o0_128_S256x64) kb vb kg vg
    ∧ k2_pay33 (k2_pay27 vb) (k2_pay28 vg) (k2_pay29 (k2_pay3 q) kg) (k2_pay30 ok (k2_pay3 q) kb) (k2_pay31 ok (k2_pay3 q) kb kg) (k2_pay32 ok (k2_pay3 q) kb kg)
      = headOut ok (extractStridedSlice S256x64 ![0, 192] (k2_pay3 q) slices_S256x768_o0_192_S256x64) kb vb kg vg
    ∧ k2_pay42 (k2_pay35 vb) (k2_pay36 vg) (k2_pay37 (k2_pay3 q) kg) (k2_pay40 ok (k2_pay3 q) kb kg) (k2_pay41 ok (k2_pay3 q) kb kg)
      = headOut ok (extractStridedSlice S256x64 ![0, 256] (k2_pay3 q) slices_S256x768_o0_256_S256x64) kb vb kg vg
    ∧ k2_pay51 (k2_pay44 vb) (k2_pay45 vg) (k2_pay49 ok (k2_pay3 q) kb kg) (k2_pay50 ok (k2_pay3 q) kb kg)
      = headOut ok (extractStridedSlice S256x64 ![0, 320] (k2_pay3 q) slices_S256x768_o0_320_S256x64) kb vb kg vg
    ∧ k2_pay61 (k2_pay53 vb) (k2_pay54 vg) (k2_pay58 ok (k2_pay3 q) kb kg) (k2_pay59 ok (k2_pay3 q) kb kg) (k2_pay60 ok (k2_pay3 q) kb kg)
      = headOut ok (extractStridedSlice S256x64 ![0, 384] (k2_pay3 q) slices_S256x768_o0_384_S256x64) kb vb kg vg
    ∧ k2_pay71 (k2_pay63 vb) (k2_pay64 vg) (k2_pay68 ok (k2_pay3 q) kb kg) (k2_pay69 ok (k2_pay3 q) kb kg) (k2_pay70 ok (k2_pay3 q) kb kg)
      = headOut ok (extractStridedSlice S256x64 ![0, 448] (k2_pay3 q) slices_S256x768_o0_448_S256x64) kb vb kg vg
    ∧ k2_pay81 (k2_pay73 vg) (k2_pay78 ok (k2_pay3 q) kb kg) (k2_pay79 ok (k2_pay3 q) kb kg) (k2_pay80 ok (k2_pay3 q) kb vb kg) (constant S256x64 .f32 0x00000000#32)
      = headOut ok (extractStridedSlice S256x64 ![0, 512] (k2_pay3 q) slices_S256x768_o0_512_S256x64) kb vb kg vg
    ∧ k2_pay90 (k2_pay88 ok (k2_pay3 q) kb vb kg vg) (k2_pay89 ok (k2_pay3 q) kb kg)
      = headOut ok (extractStridedSlice S256x64 ![0, 576] (k2_pay3 q) slices_S256x768_o0_576_S256x64) kb vb kg vg
    ∧ k2_pay92 (k2_pay91 ok (k2_pay3 q) kb vb kg vg)
      = headOut ok (extractStridedSlice S256x64 ![0, 640] (k2_pay3 q) slices_S256x768_o0_640_S256x64) kb vb kg vg
    ∧ k2_pay93 ok (k2_pay3 q) kb vb kg vg
      = headOut ok (extractStridedSlice S256x64 ![0, 704] (k2_pay3 q) slices_S256x768_o0_704_S256x64) kb vb kg vg :=
  ⟨rfl, rfl, rfl, rfl, rfl, rfl, rfl, rfl, rfl, rfl, rfl, rfl⟩

/-- Head `h`'s columns of the band, as the kernel loads them at block `n`. -/
theorem load_band (arg : Memref sig .tc .vmem S2048x768 .f32) (harg : arg.IsWhole) (x : Vec Ideal S2048x768 .f32) (n : Fin 8) (h : Fin 12)
    (off : Fin 2 → Nat) (inb : ∀ a, off a + S288x64.size a ≤ S2048x768.size a) (ho : off = ![bandStart n, 64 * h.val]) :
    View.readAt (Elt Ideal) arg.view (Rect.unit (s := S2048x768) off S288x64.size inb).toLoadRect (harg.unread x) = bCol x n h := by
  subst ho
  rw [View.readAt_eq_ld, harg.read_unread]
  funext j
  refine congrArg x (funext fun a => Fin.ext ?_)
  fin_cases a
  · show bandStart n + 1 * (j 0).val = bandStart n + (j 0).val
    omega
  · show 64 * h.val + 1 * (j 1).val = 64 * h.val + (j 1).val
    omega

/-- Head `h`'s columns of the global rows, as the kernel loads them. -/
theorem load_global (arg : Memref sig .tc .vmem S8x768 .f32) (harg : arg.IsWhole) (x : Vec Ideal S8x768 .f32) (h : Fin 12)
    (off : Fin 2 → Nat) (inb : ∀ a, off a + S8x64.size a ≤ S8x768.size a) (ho : off = ![0, 64 * h.val]) :
    View.readAt (Elt Ideal) arg.view (Rect.unit (s := S8x768) off S8x64.size inb).toLoadRect (harg.unread x) = gCol x h := by
  subst ho
  rw [View.readAt_eq_ld, harg.read_unread]
  funext j
  refine congrArg x (funext fun a => Fin.ext ?_)
  fin_cases a
  · show 0 + 1 * (j 0).val = (j 0).val
    omega
  · show 64 * h.val + 1 * (j 1).val = 64 * h.val + (j 1).val
    omega

/-- A whole buffer read at the origin is its contents. -/
theorem load_whole {S : Shape} (arg : Memref sig .tc .vmem S .f32) (harg : arg.IsWhole) (x : Vec Ideal S .f32)
    (off : Fin S.rank → Nat) (inb : ∀ a, off a + S.size a ≤ S.size a) (ho : off = fun _ => 0) :
    View.readAt (Elt Ideal) arg.view (Rect.unit (s := S) off S.size inb).toLoadRect (harg.unread x) = x := by
  subst ho
  rw [View.readAt_eq_ld, harg.read_unread]
  funext j
  refine congrArg x (funext fun a => Fin.ext ?_)
  show 0 + 1 * (j a).val = (j a).val
  omega

/-- Head `h`'s slice of the query block, as the kernel takes it. -/
theorem slice_query (arg : Memref sig .tc .vmem S256x768 .f32) (harg : arg.IsWhole) (x : Vec Ideal S256x768 .f32) (h : Fin 12)
    (off : Fin 2 → Nat) (hs : S256x768.Slices off S256x64) (inb : ∀ a, (![0, 0] : Fin 2 → Nat) a + S256x768.size a ≤ S256x768.size a)
    (ho : off = ![0, 64 * h.val]) :
    extractStridedSlice S256x64 off (k2_pay3 (View.readAt (Elt Ideal) arg.view (Rect.unit (s := S256x768) ![0, 0] S256x768.size inb).toLoadRect (harg.unread x))) hs
      = qCol x h := by
  subst ho
  rw [load_whole arg harg x ![0, 0] inb (funext fun a => by fin_cases a <;> rfl)]
  funext j
  pointwise [k2_pay3, qCol]

/-- What the kernel's scratch holds when it is read back, every head's strip stored, is `acc`. -/
theorem scratch_eq (c : Dev nD) (i : grid2.Coords) (arg1 : Memref sig .tc .vmem S256x768 .f32) (harg1 : arg1.IsWhole) (arg2 : Memref sig .tc .vmem S2048x768 .f32) (harg2 : arg2.IsWhole) (arg3 : Memref sig .tc .vmem S2048x768 .f32) (harg3 : arg3.IsWhole) (arg4 : Memref sig .tc .vmem S8x768 .f32) (harg4 : arg4.IsWhole) (arg5 : Memref sig .tc .vmem S8x768 .f32) (harg5 : arg5.IsWhole) (arg9 : Memref sig .tc .vmem S256x768 .f32)
    (x0 : Vec Ideal S256x768 .f32) (x1 : Vec Ideal S2048x768 .f32) (x2 : Vec Ideal S2048x768 .f32) (x3 : Vec Ideal S8x768 .f32) (x4 : Vec Ideal S8x768 .f32) :
    kernelRun2_A.sl.v493 c i arg1 harg1 arg2 harg2 arg3 harg3 arg4 harg4 arg5 harg5 arg9 x0 x1 x2 x3 x4 = acc i x0 x1 x2 x3 x4 := by
  obtain ⟨o1, o2, o3, o4, o5, o6, o7, o8, o9, o10, o11, o12⟩ := off_eq i
  unfold kernelRun2_A.sl.v493 kernelRun2_A.sl.HS0_12
  rw [View.readCov_eq_canon']
  funext y
  refine (View.canon_apply_of_pieces (acc i x0 x1 x2 x3 x4) _ ?_ _ ?_).trans ?_
  · simp only [List.forall_mem_cons, List.not_mem_nil, false_imp_iff, implies_true, and_true]
    refine ⟨fun x => (congrFun (chains _ _ _ _ _ _).2.2.2.2.2.2.2.2.2.2.2 x).trans (strip_eq i x0 x1 x2 x3 x4 11 _ _ _ _ _ ?_ ?_ ?_ ?_ ?_ x _ ?_ ?_),
      fun x => (congrFun (chains _ _ _ _ _ _).2.2.2.2.2.2.2.2.2.2.1 x).trans (strip_eq i x0 x1 x2 x3 x4 10 _ _ _ _ _ ?_ ?_ ?_ ?_ ?_ x _ ?_ ?_),
      fun x => (congrFun (chains _ _ _ _ _ _).2.2.2.2.2.2.2.2.2.1 x).trans (strip_eq i x0 x1 x2 x3 x4 9 _ _ _ _ _ ?_ ?_ ?_ ?_ ?_ x _ ?_ ?_),
      fun x => (congrFun (chains _ _ _ _ _ _).2.2.2.2.2.2.2.2.1 x).trans (strip_eq i x0 x1 x2 x3 x4 8 _ _ _ _ _ ?_ ?_ ?_ ?_ ?_ x _ ?_ ?_),
      fun x => (congrFun (chains _ _ _ _ _ _).2.2.2.2.2.2.2.1 x).trans (strip_eq i x0 x1 x2 x3 x4 7 _ _ _ _ _ ?_ ?_ ?_ ?_ ?_ x _ ?_ ?_),
      fun x => (congrFun (chains _ _ _ _ _ _).2.2.2.2.2.2.1 x).trans (strip_eq i x0 x1 x2 x3 x4 6 _ _ _ _ _ ?_ ?_ ?_ ?_ ?_ x _ ?_ ?_),
      fun x => (congrFun (chains _ _ _ _ _ _).2.2.2.2.2.1 x).trans (strip_eq i x0 x1 x2 x3 x4 5 _ _ _ _ _ ?_ ?_ ?_ ?_ ?_ x _ ?_ ?_),
      fun x => (congrFun (chains _ _ _ _ _ _).2.2.2.2.1 x).trans (strip_eq i x0 x1 x2 x3 x4 4 _ _ _ _ _ ?_ ?_ ?_ ?_ ?_ x _ ?_ ?_),
      fun x => (congrFun (chains _ _ _ _ _ _).2.2.2.1 x).trans (strip_eq i x0 x1 x2 x3 x4 3 _ _ _ _ _ ?_ ?_ ?_ ?_ ?_ x _ ?_ ?_),
      fun x => (congrFun (chains _ _ _ _ _ _).2.2.1 x).trans (strip_eq i x0 x1 x2 x3 x4 2 _ _ _ _ _ ?_ ?_ ?_ ?_ ?_ x _ ?_ ?_),
      fun x => (congrFun (chains _ _ _ _ _ _).2.1 x).trans (strip_eq i x0 x1 x2 x3 x4 1 _ _ _ _ _ ?_ ?_ ?_ ?_ ?_ x _ ?_ ?_),
      fun x => (congrFun (chains _ _ _ _ _ _).1 x).trans (strip_eq i x0 x1 x2 x3 x4 0 _ _ _ _ _ ?_ ?_ ?_ ?_ ?_ x _ ?_ ?_)⟩
    all_goals first
      | exact slice_query _ _ _ _ _ _ _ rfl
      | exact load_band _ _ _ _ _ _ _ (by assumption)
      | exact load_global _ _ _ _ _ _ rfl
      | exact (Nat.zero_add _).trans (Nat.one_mul _)
      | exact congrArg (_ + ·) (Nat.one_mul _)
  · refine View.cover_of_tiledL _ (![256, 64]) ?_ _
    sl_kernel_rfl
  · refine congrArg (acc i x0 x1 x2 x3 x4) (funext fun a => Fin.ext ?_)
    fin_cases a
    · exact (Nat.zero_add _).trans (Nat.one_mul _)
    · exact (Nat.zero_add _).trans (Nat.one_mul _)

/-- What the kernel stores for a block of queries: the attention outputs through the output projection. -/
theorem block_eq (c : Dev nD) (i : grid2.Coords) (arg1 : Memref sig .tc .vmem S256x768 .f32) (harg1 : arg1.IsWhole) (arg2 : Memref sig .tc .vmem S2048x768 .f32) (harg2 : arg2.IsWhole) (arg3 : Memref sig .tc .vmem S2048x768 .f32) (harg3 : arg3.IsWhole) (arg4 : Memref sig .tc .vmem S8x768 .f32) (harg4 : arg4.IsWhole) (arg5 : Memref sig .tc .vmem S8x768 .f32) (harg5 : arg5.IsWhole) (arg6 : Memref sig .tc .vmem S768x768 .f32) (harg6 : arg6.IsWhole) (arg7 : Memref sig .tc .vmem S1x768 .f32) (harg7 : arg7.IsWhole) (arg8 : Memref sig .tc .vmem S256x768 .f32) (harg8 : arg8.IsWhole) (arg9 : Memref sig .tc .vmem S256x768 .f32) (harg9 : arg9.IsWhole)
    (x0 : Vec Ideal S256x768 .f32) (x1 : Vec Ideal S2048x768 .f32) (x2 : Vec Ideal S2048x768 .f32) (x3 : Vec Ideal S8x768 .f32) (x4 : Vec Ideal S8x768 .f32) (x5 : Vec Ideal S768x768 .f32) (x6 : Vec Ideal S1x768 .f32) :
    out2_A_7 c i arg1 harg1 arg2 harg2 arg3 harg3 arg4 harg4 arg5 harg5 arg6 harg6 arg7 harg7 arg8 harg8 arg9 harg9 x0 x1 x2 x3 x4 x5 x6
      = k2_pay1 (acc i x0 x1 x2 x3 x4) x5 x6 := by
  unfold out2_A_7
  rw [View.read_writes_eq_canon _ _ _ (cover2_A_7 c i arg1 harg1 arg2 harg2 arg3 harg3 arg4 harg4 arg5 harg5 arg6 harg6 arg7 harg7 arg8 harg8 arg9 harg9 x0 x1 x2 x3 x4 x5 x6)]
  unfold kernelRun2_A
  dsimp only
  rw [View.canon_unit_zero (funext fun a => by fin_cases a <;> rfl), scratch_eq, load_whole arg6 harg6 x5 ![0, 0] _ (funext fun a => by fin_cases a <;> rfl),
    load_whole arg7 harg7 x6 ![0, 0] _ (funext fun a => by fin_cases a <;> rfl)]

/-- Row `r` of query block `n` is query `256 n + r`. -/
def row (n : Fin 8) (r : Fin 256) : Fin 2048 := ⟨256 * n.val + r.val, by omega⟩

/-- The kernel's mask at a query and a band key: whether the key lies in the query's window. -/
theorem ok_apply (i : grid2.Coords) (r : Fin 256) (d : Fin 288) :
    k2_pay2 i (ix2 r d) = BitVec.ofBool (decide (winStart (row (i 0) r).val - bandStart (i 0) ≤ d.val
      ∧ d.val < winStart (row (i 0) r).val - bandStart (i 0) + 32)) := by
  have hw : ∀ t : Fin 2048, IntOp.minsi 2016#32 (IntOp.maxsi 0#32 (IntOp.subi (BitVec.ofNat 32 t.val) 16#32)) = BitVec.ofNat 32 (winStart t.val) := by
    decide +kernel
  have hb : ∀ n : Fin 8, Scalar.minsi 1760#32 (Scalar.maxsi 0#32 (Scalar.subi (Scalar.muli (BitVec.ofNat 32 n.val) 256#32) 16#32))
      = BitVec.ofNat 32 (bandStart n) := by decide +kernel
  have ht : IntOp.addi (Scalar.muli (BitVec.ofNat 32 (i 0).val) 256#32) (BitVec.ofNat 32 r.val) = BitVec.ofNat 32 (row (i 0) r).val := by
    refine (congrArg (IntOp.addi · _) (WordCmp.muli_ofNat (i 0).val 256)).trans ((WordCmp.addi_ofNat _ _).trans ?_)
    rw [Nat.mul_comm]; rfl
  have hle : ∀ (n : Fin 8) (r : Fin 256), bandStart n ≤ winStart (row n r).val := fun n r => by
    have hr := r.isLt; have hn := n.isLt
    unfold bandStart winStart row; dsimp only; omega
  have h1 := hle (i 0) r
  have h2 := bandStart_le (i 0)
  have h3 : winStart (row (i 0) r).val ≤ 2016 := min_le_left _ _
  have hd := d.isLt
  have e := hb (i 0)
  pointwise [k2_pay2]
  rw [ht, hw, e, WordCmp.addi_ofNat, WordCmp.addi_ofNat]
  simp (disch := omega) only [hlo_ix]
  refine congrArg BitVec.ofBool ((Bool.decide_and _ _).symm.trans (decide_eq_decide.mpr ?_))
  omega

/-- One head's attention for one query, from the columns loaded: the softmax average over the keys the query sees. -/
theorem headOut_apply (i : grid2.Coords) (q : FVec Ideal S256x64 .f32) (kb vb : FVec Ideal S288x64 .f32) (kg vg : FVec Ideal S8x64 .f32)
    (Q K V : Fin 2048 → Fin 768 → EReal) (g : Fin 8 → Fin 2048) (h : Fin 12) (r : Fin 256) (d : Fin 64)
    (hQ : ∀ t c, IsReal (Q t c)) (hK : ∀ t c, IsReal (K t c))
    (eq : ∀ d, q (ix2 r d) = Q (row (i 0) r) (col h d))
    (ekb : ∀ (b : Fin 288) d, kb (ix2 b d) = K ⟨bandStart (i 0) + b.val, by have := bandStart_le (i 0); omega⟩ (col h d))
    (evb : ∀ (b : Fin 288) d, vb (ix2 b d) = V ⟨bandStart (i 0) + b.val, by have := bandStart_le (i 0); omega⟩ (col h d))
    (ekg : ∀ (m : Fin 8) d, kg (ix2 m d) = K (g m) (col h d))
    (evg : ∀ (m : Fin 8) d, vg (ix2 m d) = V (g m) (col h d)) :
    headOut (k2_pay2 i) q kb vb kg vg (ix2 r d) = attend Q K V g h (row (i 0) r) d := by
  have hn : (i 0).val < 8 := (i 0).isLt
  have hr := r.isLt
  have hle : bandStart (i 0) ≤ winStart (row (i 0) r).val := by
    show min 1760 (256 * (i 0).val - 16) ≤ min 2016 (256 * (i 0).val + r.val - 16); omega
  have hge : winStart (row (i 0) r).val + 32 ≤ bandStart (i 0) + 288 := by
    show min 2016 (256 * (i 0).val + r.val - 16) + 32 ≤ min 1760 (256 * (i 0).val - 16) + 288; omega
  have hws : winStart (row (i 0) r).val ≤ 2016 := min_le_left _ _
  have hmask : (Named.named κ "mask" 0xCE6E6B28#32 : Ideal .f32) = (⊥ : EReal) := IdealRules.named_const.ideal_named_scalar _ _ _ _ rfl
  have hinit : (Ideal.ofBits .f32 0xFF800000#32 : Ideal .f32) = (⊥ : EReal) := rfl
  unfold attend
  rw [← softAvg_split (fun m => score Q K h (row (i 0) r) (sel g (row (i 0) r) m)) (fun m => V (sel g (row (i 0) r) m) (col h d))
    (fun m => score_fin hQ hK h _ _)
    (fun b => Scalar.select (k2_pay2 i (ix2 r b)) (∑ e, q (ix2 r e) * kb (ix2 b e)) (⊥ : EReal)) (fun b => vb (ix2 b d))
    (fun m => ∑ e, q (ix2 r e) * kg (ix2 m e)) (fun m => vg (ix2 m d))
    (winStart (row (i 0) r).val - bandStart (i 0)) (by omega) ?_ ?_ ?_ ?_ ?_]
  · pointwise [headOut, k2_pay10, k2_pay5, k2_pay6, k2_pay9, hmask, hinit]
  · intro m
    have e : sel g (row (i 0) r) ⟨m.val, by omega⟩ = g m := dif_pos m.isLt
    rw [e]
    exact Finset.sum_congr rfl fun d _ => congrArg₂ (· * ·) (eq d) (ekg m d)
  · intro m
    have e : sel g (row (i 0) r) ⟨m.val, by omega⟩ = g m := dif_pos m.isLt
    rw [e]
    exact evg m d
  · intro j
    have e : sel g (row (i 0) r) ⟨8 + j.val, by omega⟩ = ⟨bandStart (i 0) + (winStart (row (i 0) r).val - bandStart (i 0) + j.val), by omega⟩ := by
      refine (dif_neg (by show ¬ (8 + j.val < 8); omega)).trans (Fin.ext ?_)
      show winStart (row (i 0) r).val + (8 + j.val - 8) = bandStart (i 0) + (winStart (row (i 0) r).val - bandStart (i 0) + j.val)
      omega
    rw [e, ok_apply, WordCmp.select_of_eq_one (by rw [decide_eq_true (by dsimp only; omega)]; rfl)]
    exact Finset.sum_congr rfl fun d _ => congrArg₂ (· * ·) (eq d) (ekb _ d)
  · intro j
    have e : sel g (row (i 0) r) ⟨8 + j.val, by omega⟩ = ⟨bandStart (i 0) + (winStart (row (i 0) r).val - bandStart (i 0) + j.val), by omega⟩ := by
      refine (dif_neg (by show ¬ (8 + j.val < 8); omega)).trans (Fin.ext ?_)
      show winStart (row (i 0) r).val + (8 + j.val - 8) = bandStart (i 0) + (winStart (row (i 0) r).val - bandStart (i 0) + j.val)
      omega
    rw [e]
    exact evb _ d
  · intro b hb
    rw [ok_apply, WordCmp.select_of_eq_zero (by rw [decide_eq_false hb]; rfl)]

/-- The last projection: each result is a row of the attention output against a column of the weights, plus the bias. -/
theorem proj_apply (a : Vec Ideal S256x768 .f32) (w : Vec Ideal S768x768 .f32) (b : Vec Ideal S1x768 .f32) (r : Fin 256) (d : Fin 768) :
   k2_pay1 a w b (ix2 r d) = ∑ c : Fin 768, a (ix2 r c) * w (ix2 c d) + b (ix2 0 d) := by
  pointwise [k2_pay1]

/-- The attention output of one query block: entry `(r, c)` is head `c / 64`'s attention at query `256 n + r`. -/
theorem acc_apply (i : grid2.Coords) (x0 : Vec Ideal S256x768 .f32) (x1 x2 : Vec Ideal S2048x768 .f32) (x3 x4 : Vec Ideal S8x768 .f32)
    (Q K V : Fin 2048 → Fin 768 → EReal) (g : Fin 8 → Fin 2048)
    (hQ : ∀ t c, IsReal (Q t c)) (hK : ∀ t c, IsReal (K t c))
    (e0 : ∀ (r : Fin 256) c, x0 (ix2 r c) = Q (row (i 0) r) c) (e1 : ∀ (t : Fin 2048) c, x1 (ix2 t c) = K t c)
    (e2 : ∀ (t : Fin 2048) c, x2 (ix2 t c) = V t c) (e3 : ∀ (m : Fin 8) c, x3 (ix2 m c) = K (g m) c)
    (e4 : ∀ (m : Fin 8) c, x4 (ix2 m c) = V (g m) c) (r : Fin 256) (c : Fin 768) :
    acc i x0 x1 x2 x3 x4 (ix2 r c) = attend Q K V g (headOf c) (row (i 0) r) (dimOf c) :=
  headOut_apply i _ _ _ _ _ Q K V g (headOf c) r (dimOf c) hQ hK (fun d => e0 r _) (fun b d => e1 _ _) (fun b d => e2 _ _)
    (fun m d => e3 m _) (fun m d => e4 m _)

/-- Which block of each operand a grid point takes: its own rows of the queries and of the result, all of the rest. -/
theorem idx : ∀ t : Fin cfg2.N, (win2_0.index t = ![t.val, 0] ∧ win2_7.index t = ![t.val, 0] ∧ (grid2.coords t 0).val = t.val)
    ∧ win2_1.index t = ![0, 0] ∧ win2_2.index t = ![0, 0] ∧ win2_3.index t = ![0, 0] ∧ win2_4.index t = ![0, 0]
    ∧ win2_5.index t = ![0, 0] ∧ win2_6.index t = ![0, 0] :=
  (by decide +kernel : ∀ t : Fin grid2.N, _)

/-- What the attention region leaves in its result: attention of every query and head, projected, plus the bias. -/
theorem final (V : (c : Dev nD) → (b : Ref sig .tc) → Buf (Elt Ideal) ((c : Thread nD τ).loc b)) (c : Dev nD)
    (Q K Vv : Fin 2048 → Fin 768 → EReal) (g : Fin 8 → Fin 2048) (hQ : ∀ t c, IsReal (Q t c)) (hK : ∀ t c, IsReal (K t c))
    (e0 : ∀ (t : Fin 2048) (d : Fin 768), (V c main_v14_0 : FVec Ideal S2048x768 .f32) (ix2 t d) = Q t d)
    (e1 : ∀ (t : Fin 2048) (d : Fin 768), (V c main_v14_1 : FVec Ideal S2048x768 .f32) (ix2 t d) = K t d)
    (e2 : ∀ (t : Fin 2048) (d : Fin 768), (V c main_v14_2 : FVec Ideal S2048x768 .f32) (ix2 t d) = Vv t d)
    (e3 : ∀ (m : Fin 8) (d : Fin 768), (V c main_v19 : FVec Ideal S8x768 .f32) (ix2 m d) = K (g m) d)
    (e4 : ∀ (m : Fin 8) (d : Fin 768), (V c main_v20 : FVec Ideal S8x768 .f32) (ix2 m d) = Vv (g m) d) :
    (dat2 V c).arrAt 7 cfg2.N = fun j : S2048x768.Idx =>
      ∑ k : Fin 768, attend Q K Vv g (headOf k) (j 0) (dimOf k) * (V c main_v21 : FVec Ideal S768x768 .f32) (ix2 k (j 1))
        + (V c main_v22 : FVec Ideal S1x768 .f32) (ix2 0 (j 1)) := by
  refine (dat2 V c).arrAt_eq_of_covers 7 _ (by decide +kernel) fun t _ y => ?_
  blk_simp
  rw [after2_7]
  unfold outsAt2
  rw [block_eq]
  frame_out
  idx_vars y
  have ht : t.val < 8 := t.isLt
  have hr : ∀ r : Fin 256, row (grid2.coords t 0) r = ⟨256 * t.val + r.val, by omega⟩ := fun r =>
    Fin.ext (congrArg (256 * · + r.val) (idx t).1.2.2)
  have ha := fun k => acc_apply (grid2.coords t) (iblk2 V c 0 t) (iblk2 V c 1 t) (iblk2 V c 2 t) (iblk2 V c 3 t) (iblk2 V c 4 t) Q K Vv g hQ hK
    (fun r d => by rw [hr, ← e0]; blk_point [iblk2, idx t]) (fun r d => by rw [← e1]; blk_point [iblk2, idx t])
    (fun r d => by rw [← e2]; blk_point [iblk2, idx t]) (fun r d => by rw [← e3]; blk_point [iblk2, idx t])
    (fun r d => by rw [← e4]; blk_point [iblk2, idx t]) y0 k
  rw [proj_apply]
  simp only [ha]
  have h0 : ((View.whole main_v23).slice (win2_7.rect t)).emb (ix2 y0 y1) 0 = row (grid2.coords t 0) y0 := by
    rw [hr]
    refine Fin.ext ?_
    blk_simp [(idx t).1.2.1]
    exact congrArg (· + y0.val) (Nat.mul_comm t.val 256)
  rw [h0]
  blk_point [iblk2, idx t]

end Cert.KernelIdeal.Band
end
-- ==== Proof.Chain.lean ====
module

public import proofs.«01_k».proof.Proof.Host
public import proofs.«01_k».proof.Proof.Proj
public import proofs.«01_k».proof.Proof.Pick
public import proofs.«01_k».proof.Proof.Band

/-!
What the kernel's program leaves in its result

The three regions and the host operations between them, put together: from the arguments in memory to the result array, entry by entry the
attention layer of `Spec`.
-/

@[expose] public section

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg) (c : Dev nD)

/-- Argument array `a` as launched. -/
abbrev arg (a : Ref sig .tc) : Buf (Elt Ideal) ((c : Thread nD τ).loc a) := m ((c : Thread nD τ).loc a)

/-- The first region's hidden states are the argument's. -/
theorem in_x (t : Fin 2048) (k : Fin 768) : (V5 m ρ c main_v0 : FVec Ideal S2048x768 .f32) (ix2 t k) = rd3 (arg m c main_arg0) 0 t k := by
  show (W5 m ρ c (Proc.devRef .tc main_v0) : FVec Ideal S2048x768 .f32) (ix2 t k) = _
  rw [W5_of m ρ c main_v0 (by decide), W4_of m ρ c main_v0 (by decide), W3_of m ρ c main_v0 (by decide), W2_of m ρ c main_v0 (by decide)]
  exact Host.v0_at (W0 m ρ c) t k

/-- Its weights for the queries are the scaled query weights. -/
theorem in_wq (k d : Fin 768) : (V5 m ρ c main_v8 : FVec Ideal S768x2432 .f32) (ix2 k ⟨0 + d.val, by omega⟩) = rd2 (arg m c main_arg2) d k * eighth := by
  show (W5 m ρ c (Proc.devRef .tc main_v8) : FVec Ideal S768x2432 .f32) (ix2 k ⟨0 + d.val, by omega⟩) = _
  rw [W5_of m ρ c main_v8 (by decide), W4_of m ρ c main_v8 (by decide)]
  refine (Host.v8_at0 (W2 m ρ c) k d).trans ?_
  rw [W2_of m ρ c main_v3 (by decide)]
  exact Host.v3_at (W0 m ρ c) k d

/-- Its weights for the keys are the key weights. -/
theorem in_wk (k d : Fin 768) : (V5 m ρ c main_v8 : FVec Ideal S768x2432 .f32) (ix2 k ⟨768 + d.val, by omega⟩) = rd2 (arg m c main_arg4) d k := by
  show (W5 m ρ c (Proc.devRef .tc main_v8) : FVec Ideal S768x2432 .f32) (ix2 k ⟨768 + d.val, by omega⟩) = _
  rw [W5_of m ρ c main_v8 (by decide), W4_of m ρ c main_v8 (by decide)]
  refine (Host.v8_at1 (W2 m ρ c) k d).trans ?_
  rw [W2_of m ρ c main_v4 (by decide)]
  exact Host.v4_at (W0 m ρ c) k d

/-- Its weights for the values are the value weights. -/
theorem in_wv (k d : Fin 768) : (V5 m ρ c main_v8 : FVec Ideal S768x2432 .f32) (ix2 k ⟨1536 + d.val, by omega⟩) = rd2 (arg m c main_arg6) d k := by
  show (W5 m ρ c (Proc.devRef .tc main_v8) : FVec Ideal S768x2432 .f32) (ix2 k ⟨1536 + d.val, by omega⟩) = _
  rw [W5_of m ρ c main_v8 (by decide), W4_of m ρ c main_v8 (by decide)]
  refine (Host.v8_at2 (W2 m ρ c) k d).trans ?_
  rw [W2_of m ρ c main_v5 (by decide)]
  exact Host.v5_at (W0 m ρ c) k d

/-- Its weights for the gate are the gate weights. -/
theorem in_wg (k : Fin 768) : (V5 m ρ c main_v8 : FVec Ideal S768x2432 .f32) (ix2 k ⟨2304 + (0 : Fin 1).val, by omega⟩) = rd2 (arg m c main_arg10) 0 k := by
  show (W5 m ρ c (Proc.devRef .tc main_v8) : FVec Ideal S768x2432 .f32) (ix2 k ⟨2304 + (0 : Fin 1).val, by omega⟩) = _
  rw [W5_of m ρ c main_v8 (by decide), W4_of m ρ c main_v8 (by decide)]
  refine (Host.v8_at3 (W2 m ρ c) k).trans ?_
  refine (Host.v7_at (W1 m ρ c) k).trans ?_
  exact Host.v6_at (W0 m ρ c) k

/-- Its bias for the queries is the scaled query bias. -/
theorem in_bq (d : Fin 768) : (V5 m ρ c main_v13 : FVec Ideal S1x2432 .f32) (ix2 0 ⟨0 + d.val, by omega⟩) = rd1 (arg m c main_arg3) d * eighth := by
  refine (Host.v13_at0 (W4 m ρ c) d).trans ?_
  rw [W4_of m ρ c main_v10 (by decide)]
  refine (Host.v10_at (W2 m ρ c) d).trans ?_
  rw [W2_args m ρ c main_arg3 (by decide)]

/-- Its bias for the keys is the key bias. -/
theorem in_bk (d : Fin 768) : (V5 m ρ c main_v13 : FVec Ideal S1x2432 .f32) (ix2 0 ⟨768 + d.val, by omega⟩) = rd1 (arg m c main_arg5) d := by
  refine (Host.v13_at1 (W4 m ρ c) d).trans ?_
  rw [W4_args m ρ c main_arg5 (by decide)]

/-- Its bias for the values is the value bias. -/
theorem in_bv (d : Fin 768) : (V5 m ρ c main_v13 : FVec Ideal S1x2432 .f32) (ix2 0 ⟨1536 + d.val, by omega⟩) = rd1 (arg m c main_arg7) d := by
  refine (Host.v13_at2 (W4 m ρ c) d).trans ?_
  rw [W4_args m ρ c main_arg7 (by decide)]

/-- Its bias for the gate is the gate bias. -/
theorem in_bg : (V5 m ρ c main_v13 : FVec Ideal S1x2432 .f32) (ix2 0 ⟨2304 + (0 : Fin 1).val, by omega⟩) = rd1 (arg m c main_arg11) 0 := by
  refine (Host.v13_at3 (W4 m ρ c)).trans ?_
  refine (Host.v11_at (W3 m ρ c)).trans ?_
  rw [W3_args m ρ c main_arg11 (by decide)]

/-- The layer's queries at the arguments in memory. -/
abbrev Q : Fin 2048 → Fin 768 → EReal := queries (arg m c main_arg0) (arg m c main_arg2) (arg m c main_arg3)
/-- The layer's keys at the arguments in memory. -/
abbrev K : Fin 2048 → Fin 768 → EReal := linear (arg m c main_arg0) (arg m c main_arg4) (arg m c main_arg5)
/-- The layer's values at the arguments in memory. -/
abbrev Vv : Fin 2048 → Fin 768 → EReal := linear (arg m c main_arg0) (arg m c main_arg6) (arg m c main_arg7)
/-- The layer's chosen tokens at the arguments in memory. -/
abbrev G : Fin 8 → Fin 2048 := globals (arg m c main_arg0) (arg m c main_arg10) (arg m c main_arg11)

/-- The first region's linear map, from its operands' entries. -/
theorem lin_eq (x : FVec Ideal S2048x768 .f32) (w : FVec Ideal S768x2432 .f32) (b : FVec Ideal S1x2432 .f32) (t : Fin 2048) (d : Fin 2432)
    (f g : Fin 768 → EReal) (b₀ : EReal) (hx : ∀ k, x (ix2 t k) = f k) (hw : ∀ k, w (ix2 k d) = g k) (hb : b (ix2 0 d) = b₀) :
    Proj.lin x w b t d = ∑ k, f k * g k + b₀ := by
  unfold Proj.lin
  rw [hb]
  exact congrArg (fun z : EReal => z + b₀) (Finset.sum_congr rfl fun k _ => by rw [hx, hw])

/-- The first region leaves the queries in its first output. -/
theorem out_q (t : Fin 2048) (d : Fin 768) : (W6 m ρ c (Proc.devRef .tc main_v14_0) : FVec Ideal S2048x768 .f32) (ix2 t d) = Q m c t d :=
  ((congrFun ((W6_arr m ρ c 3).trans (Proj.final_q (V5 m ρ) c)) (ix2 t d)).trans
    (lin_eq _ _ _ _ _ _ _ _ (in_x m ρ c t) (fun k => in_wq m ρ c k d) (in_bq m ρ c d))).trans (scaled_sum _ _ _)

/-- The first region leaves the keys in its second output. -/
theorem out_k (t : Fin 2048) (d : Fin 768) : (W6 m ρ c (Proc.devRef .tc main_v14_1) : FVec Ideal S2048x768 .f32) (ix2 t d) = K m c t d :=
  (congrFun ((W6_arr m ρ c 4).trans (Proj.final_k (V5 m ρ) c)) (ix2 t d)).trans
    (lin_eq _ _ _ _ _ _ _ _ (in_x m ρ c t) (fun k => in_wk m ρ c k d) (in_bk m ρ c d))

/-- The first region leaves the values in its third output. -/
theorem out_v (t : Fin 2048) (d : Fin 768) : (W6 m ρ c (Proc.devRef .tc main_v14_2) : FVec Ideal S2048x768 .f32) (ix2 t d) = Vv m c t d :=
  (congrFun ((W6_arr m ρ c 5).trans (Proj.final_v (V5 m ρ) c)) (ix2 t d)).trans
    (lin_eq _ _ _ _ _ _ _ _ (in_x m ρ c t) (fun k => in_wv m ρ c k d) (in_bv m ρ c d))

/-- The first region leaves the gate values in the first column of its fourth output. -/
theorem out_g (t : Fin 2048) : (W6 m ρ c (Proc.devRef .tc main_v14_3) : FVec Ideal S2048x128 .f32) (ix2 t 0)
    = linear (arg m c main_arg0) (arg m c main_arg10) (arg m c main_arg11) t 0 :=
  (congrFun ((W6_arr m ρ c 6).trans (Proj.final_g (V5 m ρ) c)) (ix2 t 0)).trans
    (lin_eq _ _ _ _ _ _ _ _ (in_x m ρ c t) (in_wg m ρ c) (in_bg m ρ c))

/-- The second region leaves the chosen tokens' numbers. -/
theorem out_pick (k : Fin 8) : (W8 m ρ c (Proc.devRef .tc main_v18) : IVec S8 32) (ix1 k) = BitVec.ofNat 32 (G m c k).val := by
  refine (congrFun ((W8_arr m ρ c 1).trans (Pick.final (V7 m ρ) c)) (ix1 k)).trans ?_
  have e : Pick.flat (V7 m ρ c main_v17) = fun t => linear (arg m c main_arg0) (arg m c main_arg10) (arg m c main_arg11) t 0 := by
    funext t
    refine (Host.v17_at (W6 m ρ c) _ _).trans (Eq.trans (congrArg (fun z => (W6 m ρ c (Proc.devRef .tc main_v14_3) : FVec Ideal S2048x128 .f32) (ix2 z 0)) (Fin.ext ?_)) (out_g m ρ c t))
    show t.val / 128 * 128 + t.val % 128 = t.val
    omega
  rw [e]
  rfl

/-- The queries reach the third region as the first left them. -/
theorem band_q (t : Fin 2048) (d : Fin 768) : (V11 m ρ c main_v14_0 : FVec Ideal S2048x768 .f32) (ix2 t d) = Q m c t d := by
  show (W11 m ρ c (Proc.devRef .tc main_v14_0) : FVec Ideal S2048x768 .f32) (ix2 t d) = _
  rw [W11_of m ρ c main_v14_0 (by decide), W10_of m ρ c main_v14_0 (by decide), W9_of m ρ c main_v14_0 (by decide),
    W8_of m ρ c main_v14_0 (by decide), W7_of m ρ c main_v14_0 (by decide)]
  exact out_q m ρ c t d

/-- The keys reach the third region as the first left them. -/
theorem band_k (t : Fin 2048) (d : Fin 768) : (V11 m ρ c main_v14_1 : FVec Ideal S2048x768 .f32) (ix2 t d) = K m c t d := by
  show (W11 m ρ c (Proc.devRef .tc main_v14_1) : FVec Ideal S2048x768 .f32) (ix2 t d) = _
  rw [W11_of m ρ c main_v14_1 (by decide), W10_of m ρ c main_v14_1 (by decide), W9_of m ρ c main_v14_1 (by decide),
    W8_of m ρ c main_v14_1 (by decide), W7_of m ρ c main_v14_1 (by decide)]
  exact out_k m ρ c t d

/-- The values reach the third region as the first left them. -/
theorem band_v (t : Fin 2048) (d : Fin 768) : (V11 m ρ c main_v14_2 : FVec Ideal S2048x768 .f32) (ix2 t d) = Vv m c t d := by
  show (W11 m ρ c (Proc.devRef .tc main_v14_2) : FVec Ideal S2048x768 .f32) (ix2 t d) = _
  rw [W11_of m ρ c main_v14_2 (by decide), W10_of m ρ c main_v14_2 (by decide), W9_of m ρ c main_v14_2 (by decide),
    W8_of m ρ c main_v14_2 (by decide), W7_of m ρ c main_v14_2 (by decide)]
  exact out_v m ρ c t d

/-- The third region's gathered keys are those of the chosen tokens. -/
theorem band_kg (k : Fin 8) (d : Fin 768) : (V11 m ρ c main_v19 : FVec Ideal S8x768 .f32) (ix2 k d) = K m c (G m c k) d := by
  show (W11 m ρ c (Proc.devRef .tc main_v19) : FVec Ideal S8x768 .f32) (ix2 k d) = _
  rw [W11_of m ρ c main_v19 (by decide), W10_of m ρ c main_v19 (by decide)]
  refine (congrFun (Host.v19_eq (W8 m ρ c)) (ix2 k d)).trans ((Host.takeRows_at _ _ (G m c) (out_pick m ρ c) k d).trans ?_)
  rw [W8_of m ρ c main_v14_1 (by decide), W7_of m ρ c main_v14_1 (by decide)]
  exact out_k m ρ c _ d

/-- The third region's gathered values are those of the chosen tokens. -/
theorem band_vg (k : Fin 8) (d : Fin 768) : (V11 m ρ c main_v20 : FVec Ideal S8x768 .f32) (ix2 k d) = Vv m c (G m c k) d := by
  show (W11 m ρ c (Proc.devRef .tc main_v20) : FVec Ideal S8x768 .f32) (ix2 k d) = _
  rw [W11_of m ρ c main_v20 (by decide)]
  refine (congrFun (Host.v20_eq (W9 m ρ c)) (ix2 k d)).trans ((Host.takeRows_at _ _ (G m c) (fun k => ?_) k d).trans ?_)
  · rw [W9_of m ρ c main_v18 (by decide)]
    exact out_pick m ρ c k
  rw [W9_of m ρ c main_v14_2 (by decide), W8_of m ρ c main_v14_2 (by decide), W7_of m ρ c main_v14_2 (by decide)]
  exact out_v m ρ c _ d

/-- The output weights as the third region has them. -/
theorem band_wo (k d : Fin 768) : (V11 m ρ c main_v21 : FVec Ideal S768x768 .f32) (ix2 k d) = rd2 (arg m c main_arg8) d k := by
  refine (Host.v21_at (W10 m ρ c) k d).trans ?_
  rw [W10_args m ρ c main_arg8 (by decide)]

/-- The output bias as the third region has it. -/
theorem band_bo (d : Fin 768) : (V11 m ρ c main_v22 : FVec Ideal S1x768 .f32) (ix2 0 d) = rd1 (arg m c main_arg9) d := by
  refine (Host.v22_at (W10 m ρ c) d).trans ?_
  rw [W10_args m ρ c main_arg9 (by decide)]

/-- The attention layer's result at the arguments in memory. -/
abbrev value (t : Fin 2048) (o : Fin 768) : EReal :=
  layer (arg m c main_arg0) (arg m c main_arg2) (arg m c main_arg3) (arg m c main_arg4) (arg m c main_arg5) (arg m c main_arg6) (arg m c main_arg7)
    (arg m c main_arg8) (arg m c main_arg9) (arg m c main_arg10) (arg m c main_arg11) t o

/-- Where queries and keys are real, the program's result array holds the attention layer's result. -/
theorem result (hQ : ∀ t d, IsReal (Q m c t d)) (hK : ∀ t d, IsReal (K m c t d)) (t : Fin 2048) (o : Fin 768) :
    (W13 m ρ c (Proc.devRef .tc main_v24) : FVec Ideal S1x2048x768 .f32) (ix3 0 t o) = value m c t o := by
  refine (Host.v24_at (W12 m ρ c) t o).trans ?_
  refine (congrFun ((W12_arr m ρ c 7).trans (Band.final (V11 m ρ) c (Q m c) (K m c) (Vv m c) (G m c) hQ hK (band_q m ρ c) (band_k m ρ c)
    (band_v m ρ c) (band_kg m ρ c) (band_vg m ρ c))) (ix2 t o)).trans ?_
  refine (congrArg (fun z : EReal => _ + z) (band_bo m ρ c o)).trans ?_
  refine congrArg (fun z : EReal => z + rd1 (arg m c main_arg9) o) (Finset.sum_congr rfl fun k _ => ?_)
  exact congrArg (fun z : EReal => attend (Q m c) (K m c) (Vv m c) (G m c) (Band.headOf k) t (Band.dimOf k) * z) (band_wo m ρ c k o)

end Cert.KernelIdeal.Chain

end
-- ==== Proof.Run.lean ====
module

public import proofs.«01_k».proof.Proof.Gen.KernelIdeal.Frame

/-!
The kernel's run, with its result

The launch of the program's segments, as the frame makes it, read at the end also at the result array: it holds what the last boundary's contents
have there.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory, the kernel's program ends with its result array at the last boundary's contents, and its arguments as launched. -/
theorem run : θ_run defs (onTc (τ := τ) (main (F := F))) ⟨m, fun _ => 0, ρ⟩ (fun r => ∀ c : Dev nD,
      r.2.mem ((c.tc : Thread nD τ).loc main_v24) = W13 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c =>
      ⟨h c _ (mem_uc main_v24 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Run

end
-- ==== Proof.Ref.lean ====
module

public import proofs.«01_k».proof.Proof.Gen.ReferenceIdeal.Read
public import proofs.«01_k».proof.Proof.Spec
public import Idealize.ShloMosaic.Lib.WordCmp

@[expose] public section

set_option maxRecDepth 16384

/-! The reference up to its scores, at an index: the queries, keys and values by head, the eight tokens its gate picks, the forty tokens a query sees,
and the products of the query with their keys. -/

noncomputable section

namespace Cert.ReferenceIdeal.Ref

open Idealize.ShloMosaic Idealize.ShloMosaic.TcCoe Idealize.SL.Sem
open Cert.ReferenceIdeal Cert.ReferenceIdeal.Gen Cert.ReferenceIdeal.Read Cert.Attn

variable (x0 : FVec Ideal S1x2048x768 .f32) (x1 : IVec S1x2048 1) (x2 : FVec Ideal S768x768 .f32) (x3 : FVec Ideal S768 .f32)
  (x4 : FVec Ideal S768x768 .f32) (x5 : FVec Ideal S768 .f32) (x6 : FVec Ideal S768x768 .f32) (x7 : FVec Ideal S768 .f32)
  (x8 : FVec Ideal S768x768 .f32) (x9 : FVec Ideal S768 .f32) (x10 : FVec Ideal S1x768 .f32) (x11 : FVec Ideal S1 .f32)

/-- Where head `h` has its entry `d`, in the order the reshape computes it. -/
theorem col_eq (h : Fin 12) (d : Fin 64) (p : h.val * 64 + d.val < 768) : (⟨h.val * 64 + d.val, p⟩ : Fin 768) = col h d :=
  Fin.ext (by show h.val * 64 + d.val = (col h d).val; simp only [col]; omega)

/-- The queries. -/
theorem q_flat (t : Fin 2048) (o : Fin 768) : (val_main_v6 (F := Ideal) x0 x2 x3 : FVec Ideal S1x2048x768 .f32) (ix3 0 t o) = queries x0 x2 x3 t o := by
  unfold queries linear
  pointwise [val_main_v6, val_main_v5, val_main_cst, val_main_v4, val_main_v3, val_main_v2, val_main_v1, val_main_v0]

/-- The queries by head. -/
theorem q_at (h : Fin 12) (t : Fin 2048) (d : Fin 64) : (val_main_v19 (F := Ideal) x0 x2 x3 : FVec Ideal S12x2048x64 .f32) (ix3 h t d) = queries x0 x2 x3 t (col h d) := by
  refine Eq.trans ?_ (q_flat x0 x2 x3 t (col h d))
  pointwise [val_main_v19, val_main_v18, val_main_v17]
  rw [col_eq]

/-- The keys. -/
theorem k_flat (t : Fin 2048) (o : Fin 768) : (val_main_v11 (F := Ideal) x0 x4 x5 : FVec Ideal S1x2048x768 .f32) (ix3 0 t o) = linear x0 x4 x5 t o := by
  unfold linear
  pointwise [val_main_v11, val_main_v10, val_main_v9, val_main_v8, val_main_v7]

/-- The keys by head. -/
theorem k_at (h : Fin 12) (t : Fin 2048) (d : Fin 64) : (val_main_v22 (F := Ideal) x0 x4 x5 : FVec Ideal S12x2048x64 .f32) (ix3 h t d) = linear x0 x4 x5 t (col h d) := by
  refine Eq.trans ?_ (k_flat x0 x4 x5 t (col h d))
  pointwise [val_main_v22, val_main_v21, val_main_v20]
  rw [col_eq]

/-- The values. -/
theorem v_flat (t : Fin 2048) (o : Fin 768) : (val_main_v16 (F := Ideal) x0 x6 x7 : FVec Ideal S1x2048x768 .f32) (ix3 0 t o) = linear x0 x6 x7 t o := by
  unfold linear
  pointwise [val_main_v16, val_main_v15, val_main_v14, val_main_v13, val_main_v12]

/-- The values by head. -/
theorem v_at (h : Fin 12) (t : Fin 2048) (d : Fin 64) : (val_main_v25 (F := Ideal) x0 x6 x7 : FVec Ideal S12x2048x64 .f32) (ix3 h t d) = linear x0 x6 x7 t (col h d) := by
  refine Eq.trans ?_ (v_flat x0 x6 x7 t (col h d))
  pointwise [val_main_v25, val_main_v24, val_main_v23]
  rw [col_eq]

/-- The gate values; the mask leaves every one of them. -/
theorem gate_at (hm : ∀ t, x1 (ix2 0 t) = 1#1) (t : Fin 2048) : (val_main_v32 (F := Ideal) x0 x1 x10 x11 : FVec Ideal S1x2048 .f32) (ix2 0 t) = linear x0 x10 x11 t 0 := by
  unfold linear
  pointwise [val_main_v32, val_main_v31, val_main_v30, val_main_v29, val_main_v28, val_main_v27, val_main_v26, hm]

/-- The chosen tokens: those of greatest gate value. -/
theorem pick_at (hm : ∀ t, x1 (ix2 0 t) = 1#1) (hg : ∀ t, IsReal (linear x0 x10 x11 t 0)) (m : Fin 8) :
    (val_main_indices (F := Ideal) x0 x1 x10 x11 : IVec S1x8 32) (ix2 0 m) = BitVec.ofNat 32 (globals x0 x10 x11 m).val := by
  refine topK_indices _ (fun t => linear x0 x10 x11 t 0) (fun t h => ?_) (fun t => gate_at x0 x1 x10 x11 hm t) _ m
  obtain ⟨r, hr⟩ := hg t
  exact EReal.coe_ne_bot r (hr.symm.trans h)

/-- The first eight selected tokens are the chosen ones. -/
theorem gi_at (h : Fin 12) (t : Fin 2048) (m : Fin 8) : (val_main_v35 (F := Ideal) x0 x1 x10 x11 : IVec S12x2048x8 32) (ix3 h t m) = (val_main_indices (F := Ideal) x0 x1 x10 x11 : IVec S1x8 32) (ix2 0 m) := by
  pointwise [val_main_v35, val_main_v34, val_main_v33]

/-- The first token of a window in words is the number `winStart`. -/
theorem clip_word : ∀ t : Fin 2048, IntOp.minsi 2016#32 (IntOp.maxsi 0#32 (IntOp.subi (BitVec.ofNat 32 t.val) 16#32)) = BitVec.ofNat 32 (winStart t.val) := by
  decide +kernel

/-- The window's tokens. -/
theorem win_at (h : Fin 12) (t : Fin 2048) (m : Fin 32) : (val_main_v47 (F := Ideal) : IVec S12x2048x32 32) (ix3 h t m) = BitVec.ofNat 32 (winStart t + m.val) := by
  pointwise [val_main_v47, val_main_v46, val_main_v45, val_main_v44, val_main_v43, val_main_v42, val_main_v41, val_main_v40, val_main_v39, val_main_call1_v4, val_main_call1_v3,
    val_main_call1_v2, val_main_call1_v1, val_main_call1_v0, val_main_c_2, val_main_c_1, val_main_v38, val_main_v37, val_main_c, val_main_v36]
  refine Eq.trans (congrArg (fun z => IntOp.addi z (BitVec.ofNat 32 m.val)) (clip_word t)) ?_
  exact WordCmp.addi_ofNat _ _

/-- The tokens a query sees, in the reference's order. -/
theorem sel_at (hm : ∀ t, x1 (ix2 0 t) = 1#1) (hg : ∀ t, IsReal (linear x0 x10 x11 t 0)) (h : Fin 12) (t : Fin 2048) (m : Fin 40) :
    (val_main_v48 (F := Ideal) x0 x1 x10 x11 : IVec S12x2048x40 32) (ix3 h t m) = BitVec.ofNat 32 (sel (globals x0 x10 x11) t m).val := by
  pointwise [val_main_v48]
  unfold sel
  by_cases hlt : m.val < 8
  · rw [dif_pos hlt, dif_pos hlt]
    exact (gi_at x0 x1 x10 x11 h t ⟨m.val, hlt⟩).trans (pick_at x0 x1 x10 x11 hm hg ⟨m.val, hlt⟩)
  · rw [dif_neg hlt, dif_neg hlt]
    exact win_at h t ⟨m.val - 8, by omega⟩

/-- Counting a negative row number from the end leaves a row number in range as it is. -/
theorem wrap_word (n : Nat) (hn : n < 2048) : Scalar.select (IntOp.cmpi .slt (BitVec.ofNat 32 n) 0#32) (IntOp.addi (BitVec.ofNat 32 n) 2048#32) (BitVec.ofNat 32 n)
    = BitVec.ofNat 32 n := by
  rw [show (0#32) = BitVec.ofNat 32 0 from rfl]
  simp (disch := omega) only [hlo_ix]
  rw [if_neg (by omega)]

/-- The key rows' numbers. -/
theorem kidx_at (hm : ∀ t, x1 (ix2 0 t) = 1#1) (hg : ∀ t, IsReal (linear x0 x10 x11 t 0)) (h : Fin 12) (t : Fin 2048) (m : Fin 40) :
    (val_main_v54 (F := Ideal) x0 x1 x10 x11 : IVec S12x2048x40x1 32) (ix4 h t m 0) = BitVec.ofNat 32 (sel (globals x0 x10 x11) t m).val := by
  have hs := sel_at x0 x1 x10 x11 hm hg h t m
  have hlt := (sel (globals x0 x10 x11) t m).isLt
  pointwise [val_main_v54, val_main_v53, val_main_v52, val_main_v51, val_main_v50, val_main_v49, val_main_c_4, val_main_c_3, hs]
  exact wrap_word _ hlt

/-- Reading one array per head at a row number of each query and place reads that row. -/
theorem rows_at (x : FVec Ideal S12x2048x64 .f32) (i : IVec S12x2048x40x1 32) (h : Fin 12) (t : Fin 2048) (m : Fin 40) (d : Fin 64) (s : Fin 2048)
    (hi : i (ix4 h t m 0) = BitVec.ofNat 32 s.val) :
    Host.gather gather_S12x2048x64_S12x2048x40x1_S12x2048x40x64_3_1_0_0_1_3_1164 x i (ix4 h t m d) = x (ix3 h s d) := by
  unfold Host.gather
  refine congrArg x (funext fun a => Fin.ext ?_)
  show GatherDims.start _ (ix4 h t m d) i a + GatherDims.batchCoord _ (ix4 h t m d) a + GatherDims.offCoord _ (ix4 h t m d) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (by decide)]
    refine Eq.trans (congrArg (fun w : BitVec 32 => min w.toInt.toNat 2047) (Eq.trans (congrArg i ?_) hi)) ?_
    · funext b
      refine Fin.ext ?_
      match b with
      | ⟨0, _⟩ => rfl
      | ⟨1, _⟩ => rfl
      | ⟨2, _⟩ => rfl
      | ⟨3, _⟩ => rfl
    · show min (BitVec.ofNat 32 s.val).toInt.toNat 2047 = s.val
      have hs := s.isLt
      rw [BitVec.toInt_eq_toNat_of_lt (by simp only [BitVec.toNat_ofNat]; omega), BitVec.toNat_ofNat]
      omega
  · rw [GatherDims.batchCoord_eq_zero _ _ _ (by decide)]
    unfold GatherDims.start
    rw [dif_neg (by decide)]
    unfold GatherDims.offCoord
    rw [dif_pos (by decide)]
    exact (Nat.zero_add _).trans rfl

/-- The value rows' numbers. -/
theorem vidx_at (hm : ∀ t, x1 (ix2 0 t) = 1#1) (hg : ∀ t, IsReal (linear x0 x10 x11 t 0)) (h : Fin 12) (t : Fin 2048) (m : Fin 40) :
    (val_main_v61 (F := Ideal) x0 x1 x10 x11 : IVec S12x2048x40x1 32) (ix4 h t m 0) = BitVec.ofNat 32 (sel (globals x0 x10 x11) t m).val := by
  have hs := sel_at x0 x1 x10 x11 hm hg h t m
  have hlt := (sel (globals x0 x10 x11) t m).isLt
  pointwise [val_main_v61, val_main_v60, val_main_v59, val_main_v58, val_main_v57, val_main_v56, val_main_c_6, val_main_c_5, hs]
  exact wrap_word _ hlt

/-- The keys a query sees. -/
theorem ksel_at (hm : ∀ t, x1 (ix2 0 t) = 1#1) (hg : ∀ t, IsReal (linear x0 x10 x11 t 0)) (h : Fin 12) (t : Fin 2048) (m : Fin 40) (d : Fin 64) :
    (val_main_v55 (F := Ideal) x0 x1 x4 x5 x10 x11 : FVec Ideal S12x2048x40x64 .f32) (ix4 h t m d)
      = linear x0 x4 x5 (sel (globals x0 x10 x11) t m) (col h d) :=
  (rows_at _ _ h t m d _ (kidx_at x0 x1 x10 x11 hm hg h t m)).trans (k_at x0 x4 x5 h _ d)

/-- The values a query sees. -/
theorem vsel_at (hm : ∀ t, x1 (ix2 0 t) = 1#1) (hg : ∀ t, IsReal (linear x0 x10 x11 t 0)) (h : Fin 12) (t : Fin 2048) (m : Fin 40) (d : Fin 64) :
    (val_main_v62 (F := Ideal) x0 x1 x6 x7 x10 x11 : FVec Ideal S12x2048x40x64 .f32) (ix4 h t m d)
      = linear x0 x6 x7 (sel (globals x0 x10 x11) t m) (col h d) :=
  (rows_at _ _ h t m d _ (vidx_at x0 x1 x10 x11 hm hg h t m)).trans (v_at x0 x6 x7 h _ d)

/-- The scores of the keys a query sees. -/
theorem score_at (hm : ∀ t, x1 (ix2 0 t) = 1#1) (hg : ∀ t, IsReal (linear x0 x10 x11 t 0)) (h : Fin 12) (t : Fin 2048) (m : Fin 40) :
    (val_main_v63 (F := Ideal) x0 x1 x2 x3 x4 x5 x10 x11 : FVec Ideal S12x2048x40 .f32) (ix3 h t m)
      = score (queries x0 x2 x3) (linear x0 x4 x5) h t (sel (globals x0 x10 x11) t m) := by
  have hk := ksel_at x0 x1 x4 x5 x10 x11 hm hg h t m
  have hq := q_at x0 x2 x3 h t
  unfold score
  pointwise [val_main_v63]
  exact Finset.sum_congr rfl fun d _ => by rw [hq d, hk d]

end Cert.ReferenceIdeal.Ref

end
-- ==== Proof.Softmax.lean ====
module

public import proofs.«01_k».proof.Proof.Ref

@[expose] public section

set_option maxRecDepth 16384

/-! The reference after its scores, at an index: the mask its queries see (true everywhere when the mask is), the softmax over a query's forty keys,
the heads side by side and the last projection — together the layer of `Spec`. -/

noncomputable section

namespace Cert.ReferenceIdeal.Ref

open Idealize.ShloMosaic Idealize.ShloMosaic.TcCoe Idealize.SL.Sem
open Cert.ReferenceIdeal Cert.ReferenceIdeal.Gen Cert.ReferenceIdeal.Read Cert.Attn

variable (x0 : FVec Ideal S1x2048x768 .f32) (x1 : IVec S1x2048 1) (x2 : FVec Ideal S768x768 .f32) (x3 : FVec Ideal S768 .f32)
  (x4 : FVec Ideal S768x768 .f32) (x5 : FVec Ideal S768 .f32) (x6 : FVec Ideal S768x768 .f32) (x7 : FVec Ideal S768 .f32)
  (x8 : FVec Ideal S768x768 .f32) (x9 : FVec Ideal S768 .f32) (x10 : FVec Ideal S1x768 .f32) (x11 : FVec Ideal S1 .f32)

/-- One head's mask entries at the tokens `i` its queries see, as the reference reads them: the entry where the number is in range, and true elsewhere. -/
def readMask (a : IVec S1x2048x2048 1) (i : IVec S1x2048x40 32) : IVec S1x2048x40 1 :=
  let w : IVec S2048x40x1 32 := shapeCast _ (select (cmpi .slt i (broadcastInDim S1x2048x40 ![] bcast_S_S1x2048x40 (constantI S_ 32 0#32)))
    (addi i (broadcastInDim S1x2048x40 ![] bcast_S_S1x2048x40 (constantI S_ 32 2048#32))) i) shapeCasts_S1x2048x40_S2048x40x1
  let ok : IVec S2048x40x1 1 := andi (cmpi .sge w (broadcastInDim S2048x40x1 ![] bcast_S_S2048x40x1 (constantI S_ 32 0#32)))
    (cmpi .sle w (broadcastInDim S2048x40x1 ![0, 1, 2] bcast_S1x1x1_S2048x40x1_0_1_2 (broadcastInDim S1x1x1 ![2] bcast_S1_S1x1x1_2 (constantI S1 32 2047#32))))
  select (broadcastInDim S1x2048x40 ![1, 2] bcast_S2048x40_S1x2048x40_1_2 (Host.reduce IntOp.andi ok (constantI S_ 1 1#1) reducesTo_S2048x40x1_S2048x40_d2 h_S_))
    (Host.gather gather_S1x2048x2048_S2048x40x1_S1x2048x40_0_2_1_0_2_2_111 a w)
    (broadcastInDim S1x2048x40 ![] bcast_S_S1x2048x40 (constantI S_ 1 1#1))

/-- A mask of ones reads as ones, whatever the token numbers. -/
theorem readMask_one (a : IVec S1x2048x2048 1) (ha : ∀ j, a j = 1#1) (i : IVec S1x2048x40 32) (j : S1x2048x40.Idx) : readMask a i j = 1#1 := by
  unfold readMask
  refine (congrArg₂ (Scalar.select _) (ha _) rfl).trans ?_
  unfold Scalar.select
  split <;> rfl

/-- The mask spread over the pairs of tokens is true where the mask is. -/
theorem pairs_one (hm : ∀ t, x1 (ix2 0 t) = 1#1) (j : S1x2048x2048.Idx) : (val_main_v65 (F := Ideal) x1 : IVec S1x2048x2048 1) j = 1#1 := by
  have hj : ∀ j : S1x2048.Idx, x1 j = 1#1 := fun j => by
    idx_vars j
    obtain rfl : j0 = 0 := Subsingleton.elim _ _
    exact hm _
  exact hj _

/-- A choice between two bits that are both 1 is 1. -/
theorem dite_one {p : Prop} [Decidable p] {x : p → BitVec 1} {y : ¬p → BitVec 1} (hx : ∀ q, x q = 1#1) (hy : ∀ q, y q = 1#1) : dite p x y = 1#1 := by
  by_cases h : p
  · exact (dif_pos h).trans (hx h)
  · exact (dif_neg h).trans (hy h)

/-- The mask at the keys a query sees is true everywhere. -/
theorem mask_at (hm : ∀ t, x1 (ix2 0 t) = 1#1) (h : Fin 12) (t : Fin 2048) (m : Fin 40) : (val_main_v103 (F := Ideal) x0 x1 x10 x11 : IVec S12x2048x40 1) (ix3 h t m) = 1#1 := by
  pointwise [val_main_v103]
  have hone : ∀ {a i : _}, a = readMask (val_main_v65 (F := Ideal) x1) i → ∀ j, a j = 1#1 :=
    fun e j => (congrFun e j).trans (readMask_one _ (pairs_one x1 hm) _ j)
  refine dite_one (fun _ => hone (rfl : val_main_v69 (F := Ideal) x0 x1 x10 x11 = readMask _ (val_main_v68 (F := Ideal) x0 x1 x10 x11)) _) fun _ => ?_
  refine dite_one (fun _ => hone (rfl : val_main_v72 (F := Ideal) x0 x1 x10 x11 = readMask _ (val_main_v71 (F := Ideal) x0 x1 x10 x11)) _) fun _ => ?_
  refine dite_one (fun _ => hone (rfl : val_main_v75 (F := Ideal) x0 x1 x10 x11 = readMask _ (val_main_v74 (F := Ideal) x0 x1 x10 x11)) _) fun _ => ?_
  refine dite_one (fun _ => hone (rfl : val_main_v78 (F := Ideal) x0 x1 x10 x11 = readMask _ (val_main_v77 (F := Ideal) x0 x1 x10 x11)) _) fun _ => ?_
  refine dite_one (fun _ => hone (rfl : val_main_v81 (F := Ideal) x0 x1 x10 x11 = readMask _ (val_main_v80 (F := Ideal) x0 x1 x10 x11)) _) fun _ => ?_
  refine dite_one (fun _ => hone (rfl : val_main_v84 (F := Ideal) x0 x1 x10 x11 = readMask _ (val_main_v83 (F := Ideal) x0 x1 x10 x11)) _) fun _ => ?_
  refine dite_one (fun _ => hone (rfl : val_main_v87 (F := Ideal) x0 x1 x10 x11 = readMask _ (val_main_v86 (F := Ideal) x0 x1 x10 x11)) _) fun _ => ?_
  refine dite_one (fun _ => hone (rfl : val_main_v90 (F := Ideal) x0 x1 x10 x11 = readMask _ (val_main_v89 (F := Ideal) x0 x1 x10 x11)) _) fun _ => ?_
  refine dite_one (fun _ => hone (rfl : val_main_v93 (F := Ideal) x0 x1 x10 x11 = readMask _ (val_main_v92 (F := Ideal) x0 x1 x10 x11)) _) fun _ => ?_
  refine dite_one (fun _ => hone (rfl : val_main_v96 (F := Ideal) x0 x1 x10 x11 = readMask _ (val_main_v95 (F := Ideal) x0 x1 x10 x11)) _) fun _ => ?_
  refine dite_one (fun _ => hone (rfl : val_main_v99 (F := Ideal) x0 x1 x10 x11 = readMask _ (val_main_v98 (F := Ideal) x0 x1 x10 x11)) _) fun _ => ?_
  exact hone (rfl : val_main_v102 (F := Ideal) x0 x1 x10 x11 = readMask _ (val_main_v101 (F := Ideal) x0 x1 x10 x11)) _

/-- With every entry of the mask true, the masked scores are the scores. -/
theorem masked_at (hm : ∀ t, x1 (ix2 0 t) = 1#1) (hg : ∀ t, IsReal (linear x0 x10 x11 t 0)) (h : Fin 12) (t : Fin 2048) (m : Fin 40) :
    (val_main_v104 (F := Ideal) x0 x1 x2 x3 x4 x5 x10 x11 : FVec Ideal S12x2048x40 .f32) (ix3 h t m)
      = score (queries x0 x2 x3) (linear x0 x4 x5) h t (sel (globals x0 x10 x11) t m) := by
  refine Eq.trans ?_ (score_at x0 x1 x2 x3 x4 x5 x10 x11 hm hg h t m)
  pointwise [val_main_v104, mask_at x0 x1 x10 x11 hm h t m]

/-- The largest of a query's entries in any array `y`, with the two passes by −∞ the softmax makes. -/
theorem largest_at (y : FVec Ideal S12x2048x40 .f32) (h : Fin 12) (t : Fin 2048) :
    (maximumf (val_main_v106 (F := Ideal)) (Host.reduce FloatOps.maximumf y (val_main_cst_8 (F := Ideal)) reducesTo_S12x2048x40_S12x2048_d2 h_S_) : FVec Ideal S12x2048 .f32) (ix2 h t)
      = Finset.univ.fold max (⊥ : EReal) fun m : Fin 40 => (y (ix3 h t m) : EReal) := by
  have hb : (Ideal.ofBits .f32 0xFF800000#32 : Ideal .f32) = (⊥ : EReal) := rfl
  pointwise [val_main_v106, val_main_cst_8, val_main_cst_9]
  rw [hb]
  exact bot_sup_eq (Finset.univ.fold max (⊥ : EReal) fun m : Fin 40 => (y (ix3 h t m) : EReal))

/-- The largest score of a query. -/
theorem top_at (hm : ∀ t, x1 (ix2 0 t) = 1#1) (hg : ∀ t, IsReal (linear x0 x10 x11 t 0)) (h : Fin 12) (t : Fin 2048) :
    (val_main_v107 (F := Ideal) x0 x1 x2 x3 x4 x5 x10 x11 : FVec Ideal S12x2048 .f32) (ix2 h t)
      = Finset.univ.fold max (⊥ : EReal) fun m => score (queries x0 x2 x3) (linear x0 x4 x5) h t (sel (globals x0 x10 x11) t m) := by
  unfold val_main_v107 val_main_v105
  refine (largest_at _ h t).trans ?_
  exact congrArg (Finset.univ.fold max (⊥ : EReal)) (funext fun m => masked_at x0 x1 x2 x3 x4 x5 x10 x11 hm hg h t m)

/-- The weight of a key before it is divided by the sum. -/
theorem exp_at (hm : ∀ t, x1 (ix2 0 t) = 1#1) (hg : ∀ t, IsReal (linear x0 x10 x11 t 0)) (h : Fin 12) (t : Fin 2048) (m : Fin 40) :
    (val_main_v111 (F := Ideal) x0 x1 x2 x3 x4 x5 x10 x11 : FVec Ideal S12x2048x40 .f32) (ix3 h t m)
      = Ideal.exp (score (queries x0 x2 x3) (linear x0 x4 x5) h t (sel (globals x0 x10 x11) t m)
          - Finset.univ.fold max (⊥ : EReal) fun m => score (queries x0 x2 x3) (linear x0 x4 x5) h t (sel (globals x0 x10 x11) t m)) := by
  have hs := masked_at x0 x1 x2 x3 x4 x5 x10 x11 hm hg h t m
  have ht := top_at x0 x1 x2 x3 x4 x5 x10 x11 hm hg h t
  pointwise [val_main_v111, val_main_v110, val_main_v109, val_main_v108, hs, ht]

/-- What a head makes of a query. -/
theorem attend_at (hm : ∀ t, x1 (ix2 0 t) = 1#1) (hg : ∀ t, IsReal (linear x0 x10 x11 t 0)) (h : Fin 12) (t : Fin 2048) (d : Fin 64) :
    (val_main_v116 (F := Ideal) x0 x1 x2 x3 x4 x5 x6 x7 x10 x11 : FVec Ideal S12x2048x64 .f32) (ix3 h t d)
      = attend (queries x0 x2 x3) (linear x0 x4 x5) (linear x0 x6 x7) (globals x0 x10 x11) h t d := by
  have he := exp_at x0 x1 x2 x3 x4 x5 x10 x11 hm hg h t
  have hv := fun m => vsel_at x0 x1 x6 x7 x10 x11 hm hg h t m d
  unfold attend softAvg
  pointwise [val_main_v116, val_main_v115, val_main_v114, val_main_v113, val_main_v112, val_main_cst_10, he, hv]

/-- The heads side by side. -/
theorem joined_at (t : Fin 2048) (k : Fin 768) :
    (val_main_v119 (F := Ideal) x0 x1 x2 x3 x4 x5 x6 x7 x10 x11 : FVec Ideal S1x2048x768 .f32) (ix3 0 t k)
      = (val_main_v116 (F := Ideal) x0 x1 x2 x3 x4 x5 x6 x7 x10 x11 : FVec Ideal S12x2048x64 .f32) (ix3 ⟨k.val / 64, by omega⟩ t ⟨k.val % 64, by omega⟩) := by
  pointwise [val_main_v119, val_main_v118, val_main_v117]

/-- The last projection of any array `y`: its rows times the output weights, plus the output bias. -/
theorem proj_at (y : FVec Ideal S1x2048x768 .f32) (t : Fin 2048) (o : Fin 768) :
    (addf (Host.dotGeneral (φ₂ := .f32) (φ₁ := .f32) dot_S1x2048x768_S768x768_S1x2048x768_2_0_01_1_n_n none y (val_main_v120 (F := Ideal) x8)) (val_main_v123 (F := Ideal) x9)
        : FVec Ideal S1x2048x768 .f32) (ix3 0 t o)
      = ∑ k : Fin 768, rd3 y 0 t k * rd2 x8 o k + rd1 x9 o := by
  pointwise [val_main_v123, val_main_v122, val_main_v120]

/-- With every entry of the mask true and the gate's pre-activations real, the reference computes the layer. -/
theorem layer_at (hm : ∀ t, x1 (ix2 0 t) = 1#1) (hg : ∀ t, IsReal (linear x0 x10 x11 t 0)) (t : Fin 2048) (o : Fin 768) :
    (val_main_v124 (F := Ideal) x0 x1 x2 x3 x4 x5 x6 x7 x8 x9 x10 x11 : FVec Ideal S1x2048x768 .f32) (ix3 0 t o)
      = layer x0 x2 x3 x4 x5 x6 x7 x8 x9 x10 x11 t o := by
  unfold val_main_v124 val_main_v121
  refine (proj_at x8 x9 _ t o).trans ?_
  unfold layer
  refine congrArg (fun z : EReal => z + rd1 x9 o) (Finset.sum_congr rfl fun k _ => ?_)
  exact congrArg (fun z : EReal => z * rd2 x8 o k)
    ((joined_at x0 x1 x2 x3 x4 x5 x6 x7 x10 x11 t k).trans (attend_at x0 x1 x2 x3 x4 x5 x6 x7 x10 x11 hm hg _ t _))

end Cert.ReferenceIdeal.Ref

end
-- ==== Proof.Pre.lean ====
module

public import proofs.«01_k».proof.Pre_finite_unmasked
public import proofs.«01_k».proof.Proof.Spec
public import Idealize.ShloMosaic.Lib.ReduceAll
public import Idealize.ShloMosaic.Lib.WordCmp

/-!
What the precondition says

`finite_unmasked` is one bit, the conjunction of eight: every entry of the mask is true, and every entry of the hidden states and of the
weights and biases of the queries, the keys and the gate is smaller than infinity in absolute value. Read back: the mask is true everywhere and
those arrays hold real numbers.
-/

@[expose] public section

set_option maxRecDepth 16384

noncomputable section

namespace Cert.Pre_finite_unmasked

open Idealize.ShloMosaic Cert.Attn

/-- The side conditions of the precondition's operations. -/
theorem facts : Facts where
  reducesTo_S1x2048_S_d0_1 := by decide
  h_S_ := by decide
  bcast_S_S1x2048x768 := by decide
  reducesTo_S1x2048x768_S_d0_1_2 := by decide
  bcast_S_S768x768 := by decide
  reducesTo_S768x768_S_d0_1 := by decide
  bcast_S_S768 := by decide
  reducesTo_S768_S_d0 := by decide
  bcast_S_S1x768 := by decide
  reducesTo_S1x768_S_d0_1 := by decide
  bcast_S_S1 := by decide
  reducesTo_S1_S_d0 := by decide

/-- A scalar array has one index. -/
instance : Subsingleton S_.Idx := ⟨fun a b => funext fun i => i.elim0⟩

/-- A conjunction of two bits is 1 only when both are. -/
theorem both (a b : IVec S_ 1) (j : S_.Idx) (e : andi a b j = 1#1) : a j = 1#1 ∧ b j = 1#1 := IntOp.andi_eq_one.mp e

/-- An array whose entries are all below infinity in absolute value holds real numbers. -/
theorem real_of_below {s : Shape} {axes : List (Fin s.rank)} (x : FVec Ideal s .f32) (hb : S_.BroadcastsInDim s (![] : Fin 0 → Fin s.rank)) (hr : s.ReducesTo axes S_) (h : 0 < S_.numel) (j : S_.Idx)
    (e : Host.reduce IntOp.andi (cmpf .olt (Host.absf x) (broadcastInDim s ![] hb (constant S_ .f32 0x7F800000#32))) (constantI S_ 1 1#1) hr h j = 1#1)
    (i : s.Idx) : IsReal (x i) := by
  have hi := Host.reduce_andi_all _ _ hr h j e i
  exact IsReal.of_abs_lt ((Idealize.ShloMosaic.WordCmp.ofBool_decide_eq_one_iff (max (x i) (-(x i)) < (⊤ : EReal))).1 hi)

variable [Facts] (x0 : FVec Ideal S1x2048x768 .f32) (x1 : IVec S1x2048 1) (x2 : FVec Ideal S768x768 .f32) (x3 : FVec Ideal S768 .f32)
  (x4 : FVec Ideal S768x768 .f32) (x5 : FVec Ideal S768 .f32) (x6 : FVec Ideal S768x768 .f32) (x7 : FVec Ideal S768 .f32)
  (x8 : FVec Ideal S768x768 .f32) (x9 : FVec Ideal S768 .f32) (x10 : FVec Ideal S1x768 .f32) (x11 : FVec Ideal S1 .f32)

/-- Where the precondition's bit is 1, the mask is true everywhere, and the hidden states, and the weights and biases of the queries, the keys and
the gate, are real numbers. -/
theorem read (j : S_.Idx) (e : fn (F := Ideal) x0 x1 x2 x3 x4 x5 x6 x7 x8 x9 x10 x11 j = 1#1) :
    (∀ t, x1 (ix2 0 t) = 1#1) ∧ Real3 x0 ∧ Real2 x2 ∧ Real1 x3 ∧ Real2 x4 ∧ Real1 x5 ∧ Real2 x10 ∧ Real1 x11 := by
  obtain ⟨e, h11⟩ := both _ _ j e
  obtain ⟨e, h10⟩ := both _ _ j e
  obtain ⟨e, h5⟩ := both _ _ j e
  obtain ⟨e, h4⟩ := both _ _ j e
  obtain ⟨e, h3⟩ := both _ _ j e
  obtain ⟨e, h2⟩ := both _ _ j e
  obtain ⟨hm, h0⟩ := both _ _ j e
  exact ⟨fun t => Host.reduce_andi_all _ _ _ _ j hm (ix2 0 t), fun a b d => real_of_below x0 _ _ _ j h0 (ix3 a b d),
    fun a b => real_of_below x2 _ _ _ j h2 (ix2 a b), fun a => real_of_below x3 _ _ _ j h3 (ix1 a),
    fun a b => real_of_below x4 _ _ _ j h4 (ix2 a b), fun a => real_of_below x5 _ _ _ j h5 (ix1 a),
    fun a b => real_of_below x10 _ _ _ j h10 (ix2 a b), fun a => real_of_below x11 _ _ _ j h11 (ix1 a)⟩

end Cert.Pre_finite_unmasked

end
-- ==== Proof.Equal.lean ====
module

public import proofs.«01_k».proof.Defs
public import proofs.«01_k».proof.Proof.Chain
public import proofs.«01_k».proof.Proof.Run
public import proofs.«01_k».proof.Proof.Softmax
public import proofs.«01_k».proof.Proof.Pre
public import proofs.«01_k».proof.Proof.Gen.ReferenceIdeal.Run

/-!
Kernel and reference end with equal results

From memories that agree on the arguments and satisfy the precondition, the kernel's result array and the reference's both hold, entry by entry,
the attention layer of `Spec`.
-/

@[expose] public section

set_option maxRecDepth 16384

noncomputable section

namespace Cert.Equal

open Idealize.ShloMosaic Idealize.ShloMosaic.TcCoe Idealize.SL.Sem
open Cert.Attn

/-- The kernel's last contents of its result array are the reference's result at the same arguments. -/
theorem contents (m : (ℓ : Loc KernelIdeal.nD KernelIdeal.τ KernelIdeal.sig) → Buf (Elt Ideal) ℓ) (ρ : Dev KernelIdeal.nD → PrngReg)
    (c : Dev KernelIdeal.nD) [Pre_finite_unmasked.Facts]
    (h : ∀ j, Pre_finite_unmasked.fn (F := Ideal) (KernelIdeal.Chain.arg m c KernelIdeal.main_arg0) (KernelIdeal.Chain.arg m c KernelIdeal.main_arg1) (KernelIdeal.Chain.arg m c KernelIdeal.main_arg2)
      (KernelIdeal.Chain.arg m c KernelIdeal.main_arg3) (KernelIdeal.Chain.arg m c KernelIdeal.main_arg4) (KernelIdeal.Chain.arg m c KernelIdeal.main_arg5) (KernelIdeal.Chain.arg m c KernelIdeal.main_arg6)
      (KernelIdeal.Chain.arg m c KernelIdeal.main_arg7) (KernelIdeal.Chain.arg m c KernelIdeal.main_arg8) (KernelIdeal.Chain.arg m c KernelIdeal.main_arg9) (KernelIdeal.Chain.arg m c KernelIdeal.main_arg10)
      (KernelIdeal.Chain.arg m c KernelIdeal.main_arg11) j = 1#1) :
    (ReferenceIdeal.Read.val_main_v124 (F := Ideal) (KernelIdeal.Chain.arg m c KernelIdeal.main_arg0) (KernelIdeal.Chain.arg m c KernelIdeal.main_arg1) (KernelIdeal.Chain.arg m c KernelIdeal.main_arg2)
      (KernelIdeal.Chain.arg m c KernelIdeal.main_arg3) (KernelIdeal.Chain.arg m c KernelIdeal.main_arg4) (KernelIdeal.Chain.arg m c KernelIdeal.main_arg5) (KernelIdeal.Chain.arg m c KernelIdeal.main_arg6)
      (KernelIdeal.Chain.arg m c KernelIdeal.main_arg7) (KernelIdeal.Chain.arg m c KernelIdeal.main_arg8) (KernelIdeal.Chain.arg m c KernelIdeal.main_arg9) (KernelIdeal.Chain.arg m c KernelIdeal.main_arg10)
      (KernelIdeal.Chain.arg m c KernelIdeal.main_arg11) : FVec Ideal ReferenceIdeal.S1x2048x768 .f32)
      = KernelIdeal.Gen.W13 m ρ c (Proc.devRef .tc KernelIdeal.main_v24) := by
  obtain ⟨hm, h0, h2, h3, h4, h5, h10, h11⟩ := Pre_finite_unmasked.read _ _ _ _ _ _ _ _ _ _ _ _ (fun i => i.elim0) (h _)
  funext j
  idx_vars j
  obtain rfl : j0 = 0 := Subsingleton.elim _ _
  exact (ReferenceIdeal.Ref.layer_at _ _ _ _ _ _ _ _ _ _ _ _ hm (fun t => linear_real h0 h10 h11 t 0) j1 j2).trans
    (KernelIdeal.Chain.result m ρ c (queries_real h0 h2 h3) (linear_real h0 h4 h5) j1 j2).symm

/-- The kernel and the reference, from memories agreeing on the arguments and satisfying the precondition, both end with the one result and with their
arguments unchanged. -/
theorem algebraic : algebraic_KernelIdeal_ReferenceIdeal_pre_finite_unmasked (hKernelIdeal := KernelIdeal.Gen.facts) (hReferenceIdeal := ReferenceIdeal.Gen.facts)
    (hPre_finite_unmasked := Pre_finite_unmasked.facts) := by
  intro m g m' g' hpre hargs
  refine ⟨fun c => KernelIdeal.Gen.W13 m g c (Proc.devRef .tc KernelIdeal.main_v24), KernelIdeal.Run.run m g,
    (θ_run _ _ _).mono (fun r h c => ⟨(h c).1.trans ?_, (h c).2⟩) (ReferenceIdeal.Value.run m' g')⟩
  refine (ReferenceIdeal.Read.val_main_v124_eq (StableHlo.launchContents m' c)).trans ?_
  have := Pre_finite_unmasked.facts
  refine Eq.trans ?_ (contents m g c (fun j => congrFun (hpre c) j))
  obtain ⟨e0, e1, e2, e3, e4, e5, e6, e7, e8, e9, e10, e11⟩ := hargs c
  have same : ∀ {y0 : FVec Ideal ReferenceIdeal.S1x2048x768 .f32} {y1 : IVec ReferenceIdeal.S1x2048 1} {y2 y4 y6 y8 : FVec Ideal ReferenceIdeal.S768x768 .f32}
      {y3 y5 y7 y9 : FVec Ideal ReferenceIdeal.S768 .f32} {y10 : FVec Ideal ReferenceIdeal.S1x768 .f32} {y11 : FVec Ideal ReferenceIdeal.S1 .f32}
      {z0 z1 z2 z3 z4 z5 z6 z7 z8 z9 z10 z11 : _}, y0 = z0 → y1 = z1 → y2 = z2 → y3 = z3 → y4 = z4 → y5 = z5 → y6 = z6 → y7 = z7 → y8 = z8 → y9 = z9 →
      y10 = z10 → y11 = z11 → ReferenceIdeal.Read.val_main_v124 (F := Ideal) y0 y1 y2 y3 y4 y5 y6 y7 y8 y9 y10 y11
        = ReferenceIdeal.Read.val_main_v124 (F := Ideal) z0 z1 z2 z3 z4 z5 z6 z7 z8 z9 z10 z11 := by
    intros
    subst_vars
    rfl
  exact same e0 e1 e2 e3 e4 e5 e6 e7 e8 e9 e10 e11

end Cert.Equal

end
-- ==== Proof.lean ====
module

public import Idealize.ShloMosaic.Lib.Quiescent
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal

@[expose] public section

noncomputable section

namespace Cert.Proof

open Idealize.ShloMosaic Idealize.SL.Sem Cert.Kernel

/-- The reference ends with its arguments as launched and no semaphore counted: it has none. -/
theorem reference_frame : quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- Every claim of the certificate: the frames, that naming the mask constant keeps the kernel's text, and that kernel and reference end with
equal results. -/
theorem claim : Cert.Claim := ⟨Cert.Kernel.Gen.facts, Cert.KernelIdeal.Gen.facts, Cert.ReferenceIdeal.Gen.facts, Cert.Pre_finite_unmasked.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "mask" .f32 0xCE6E6B28#32 ⊥ rfl,
  Cert.Equal.algebraic⟩

end Cert.Proof

end
